-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_temperature_not_zero [hPre_temperature_not_zero : Cert.Pre_temperature_not_zero.Facts] (m : (ℓ : Loc Cert.HeadIdeal.nD Cert.HeadIdeal.τ Cert.HeadIdeal.sig) → Buf (Elt Ideal) ℓ) : Prop :=
  ∀ c : Dev Cert.HeadIdeal.nD,
    (Cert.Pre_temperature_not_zero.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_not_zero [hPre_temperature_not_zero : Cert.Pre_temperature_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_temperature_not_zero [hHeadIdeal : Cert.HeadIdeal.Facts] [hPre_temperature_not_zero : Cert.Pre_temperature_not_zero.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_temperature_not_zero m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_temperature_not_zero [hReferenceIdeal : Cert.ReferenceIdeal.Facts] [hPre_temperature_not_zero : Cert.Pre_temperature_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Head_HeadIdeal : Prop :=
  True

def algebraic_HeadIdeal_ReferenceIdeal_pre_temperature_not_zero [hHeadIdeal : Cert.HeadIdeal.Facts] [hReferenceIdeal : Cert.ReferenceIdeal.Facts] [hPre_temperature_not_zero : Cert.Pre_temperature_not_zero.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_HeadIdeal_temperature_not_zero m →
    (∀ c : Dev Cert.HeadIdeal.nD,
      m' ((c.tc : Thread Cert.ReferenceIdeal.nD Cert.ReferenceIdeal.τ).loc Cert.ReferenceIdeal.main_arg0) = m ((c.tc : Thread Cert.HeadIdeal.nD Cert.HeadIdeal.τ).loc Cert.HeadIdeal.main_arg0)
      ∧ m' ((c.tc : Thread Cert.ReferenceIdeal.nD Cert.ReferenceIdeal.τ).loc Cert.ReferenceIdeal.main_arg1) = m ((c.tc : Thread Cert.HeadIdeal.nD Cert.HeadIdeal.τ).loc Cert.HeadIdeal.main_arg1)
      ∧ m' ((c.tc : Thread Cert.ReferenceIdeal.nD Cert.ReferenceIdeal.τ).loc Cert.ReferenceIdeal.main_arg2) = m ((c.tc : Thread Cert.HeadIdeal.nD Cert.HeadIdeal.τ).loc Cert.HeadIdeal.main_arg2)
      ∧ m' ((c.tc : Thread Cert.ReferenceIdeal.nD Cert.ReferenceIdeal.τ).loc Cert.ReferenceIdeal.main_arg3) = m ((c.tc : Thread Cert.HeadIdeal.nD Cert.HeadIdeal.τ).loc Cert.HeadIdeal.main_arg3)
      ∧ m' ((c.tc : Thread Cert.ReferenceIdeal.nD Cert.ReferenceIdeal.τ).loc Cert.ReferenceIdeal.main_arg4) = m ((c.tc : Thread Cert.HeadIdeal.nD Cert.HeadIdeal.τ).loc Cert.HeadIdeal.main_arg4)
      ∧ m' ((c.tc : Thread Cert.ReferenceIdeal.nD Cert.ReferenceIdeal.τ).loc Cert.ReferenceIdeal.main_arg5) = m ((c.tc : Thread Cert.HeadIdeal.nD Cert.HeadIdeal.τ).loc Cert.HeadIdeal.main_arg5)
      ∧ m' ((c.tc : Thread Cert.ReferenceIdeal.nD Cert.ReferenceIdeal.τ).loc Cert.ReferenceIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v4_0)) (v1 : (c : Dev Cert.HeadIdeal.nD) → Buf (Elt Ideal) ((c.tc : Thread Cert.HeadIdeal.nD Cert.HeadIdeal.τ).loc Cert.HeadIdeal.main_v4_1)) (v2 : (c : Dev Cert.HeadIdeal.nD) → Buf (Elt Ideal) ((c.tc : Thread Cert.HeadIdeal.nD Cert.HeadIdeal.τ).loc Cert.HeadIdeal.main_v4_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v4_0) = v0 c
          ∧ r.2.mem ((c.tc : Thread Cert.HeadIdeal.nD Cert.HeadIdeal.τ).loc Cert.HeadIdeal.main_v4_1) = v1 c
          ∧ r.2.mem ((c.tc : Thread Cert.HeadIdeal.nD Cert.HeadIdeal.τ).loc Cert.HeadIdeal.main_v4_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hHead : Cert.Head.Facts) (hHeadIdeal : Cert.HeadIdeal.Facts) (hReferenceIdeal : Cert.ReferenceIdeal.Facts) (hPre_temperature_not_zero : Cert.Pre_temperature_not_zero.Facts),
    quiescent_Head (hHead := hHead)
    ∧ quiescent_HeadIdeal (hHeadIdeal := hHeadIdeal)
    ∧ quiescent_HeadIdeal_pre_temperature_not_zero (hHeadIdeal := hHeadIdeal) (hPre_temperature_not_zero := hPre_temperature_not_zero)
    ∧ quiescent_ReferenceIdeal (hReferenceIdeal := hReferenceIdeal)
    ∧ quiescent_ReferenceIdeal_pre_temperature_not_zero (hReferenceIdeal := hReferenceIdeal) (hPre_temperature_not_zero := hPre_temperature_not_zero)
    ∧ preserves_Head_HeadIdeal
    ∧ algebraic_HeadIdeal_ReferenceIdeal_pre_temperature_not_zero (hHeadIdeal := hHeadIdeal) (hReferenceIdeal := hReferenceIdeal) (hPre_temperature_not_zero := hPre_temperature_not_zero)
-- ==== Pre_temperature_not_zero.lean ====
abbrev S32x8x5120 : Shape := ⟨3, ![32, 8, 5120]⟩
abbrev S5120 : Shape := ⟨1, ![5120]⟩
abbrev S75776x2560 : Shape := ⟨2, ![75776, 2560]⟩
abbrev S75776x320 : Shape := ⟨2, ![75776, 320]⟩
abbrev S1 : Shape := ⟨1, ![1]⟩
abbrev S32 : Shape := ⟨1, ![32]⟩
abbrev S32x7 : Shape := ⟨2, ![32, 7]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x8x5120 .bf16) (main_arg1 : FVec F S5120 .f32) (main_arg2 : IVec S75776x2560 8) (main_arg3 : FVec F S75776x320 .fp8e4m3) (main_arg4 : FVec F S1 .f32) (main_arg5 : FVec F S32 .f32) (main_arg6 : IVec S32x7 32) : IVec S32 1 :=
  let main_cst : FVec F S_ .f32 := constant S_ .f32 0x00000000#32
  let main_v0 : FVec F S32 .f32 := broadcastInDim S32 ![] bcast_S_S32 main_cst
  let main_v1 : IVec S32 1 := cmpf .une main_arg5 main_v0
  main_v1
-- ==== Head.lean ====
abbrev S32x8x5120 : Shape := ⟨3, ![32, 8, 5120]⟩
abbrev S5120 : Shape := ⟨1, ![5120]⟩
abbrev S75776x2560 : Shape := ⟨2, ![75776, 2560]⟩
abbrev S75776x320 : Shape := ⟨2, ![75776, 320]⟩
abbrev S1 : Shape := ⟨1, ![1]⟩
abbrev S32 : Shape := ⟨1, ![32]⟩
abbrev S32x7 : Shape := ⟨2, ![32, 7]⟩
abbrev S1x32 : Shape := ⟨2, ![1, 32]⟩
abbrev S1x5120 : Shape := ⟨2, ![1, 5120]⟩
abbrev S320x75776 : Shape := ⟨2, ![320, 75776]⟩
abbrev S7x32 : Shape := ⟨2, ![7, 32]⟩
abbrev S256x75776 : Shape := ⟨2, ![256, 75776]⟩
abbrev S256x128 : Shape := ⟨2, ![256, 128]⟩
abbrev S512x2560 : Shape := ⟨2, ![512, 2560]⟩
abbrev S320x512 : Shape := ⟨2, ![320, 512]⟩
abbrev S256x512 : Shape := ⟨2, ![256, 512]⟩
abbrev S256x5120 : Shape := ⟨2, ![256, 5120]⟩
abbrev S1x8x5120 : Shape := ⟨3, ![1, 8, 5120]⟩
abbrev S8x5120 : Shape := ⟨2, ![8, 5120]⟩
abbrev S8 : Shape := ⟨1, ![8]⟩
abbrev S8x1 : Shape := ⟨2, ![8, 1]⟩
abbrev S1x96 : Shape := ⟨2, ![1, 96]⟩
abbrev S1x128 : Shape := ⟨2, ![1, 128]⟩
abbrev S128x128 : Shape := ⟨2, ![128, 128]⟩
abbrev S32x128 : Shape := ⟨2, ![32, 128]⟩
abbrev S512x128 : Shape := ⟨2, ![512, 128]⟩
abbrev S128x512 : Shape := ⟨2, ![128, 512]⟩
abbrev S128x1x512 : Shape := ⟨3, ![128, 1, 512]⟩
abbrev S128x2x512 : Shape := ⟨3, ![128, 2, 512]⟩
abbrev S16x512 : Shape := ⟨2, ![16, 512]⟩
abbrev S16x1x512 : Shape := ⟨3, ![16, 1, 512]⟩
abbrev S16x16x512 : Shape := ⟨3, ![16, 16, 512]⟩
abbrev S256x256 : Shape := ⟨2, ![256, 256]⟩
abbrev S8x128 : Shape := ⟨2, ![8, 128]⟩
abbrev S256 : Shape := ⟨1, ![256]⟩
abbrev S256x1 : Shape := ⟨2, ![256, 1]⟩

abbrev nBuf : Space → Nat
  | .hbm => 14
  | .vmem => 20
  | .smem => 1
  | _ => 0

abbrev bufTy : (tb : Table) → Fin (tcTables nBuf tb) → BufTy
  | .hbm, ⟨0, _⟩ => ⟨S32x8x5120, .bf16⟩
  | .hbm, ⟨1, _⟩ => ⟨S5120, .f32⟩
  | .hbm, ⟨2, _⟩ => ⟨S75776x2560, .i8⟩
  | .hbm, ⟨3, _⟩ => ⟨S75776x320, .fp8e4m3⟩
  | .hbm, ⟨4, _⟩ => ⟨S1, .f32⟩
  | .hbm, ⟨5, _⟩ => ⟨S32, .f32⟩
  | .hbm, ⟨6, _⟩ => ⟨S32x7, .i32⟩
  | .hbm, ⟨7, _⟩ => ⟨S1x32, .f32⟩
  | .hbm, ⟨8, _⟩ => ⟨S1x5120, .f32⟩
  | .hbm, ⟨9, _⟩ => ⟨S320x75776, .fp8e4m3⟩
  | .hbm, ⟨10, _⟩ => ⟨S7x32, .i32⟩
  | .hbm, ⟨11, _⟩ => ⟨S256x75776, .f32⟩
  | .hbm, ⟨12, _⟩ => ⟨S256x128, .f32⟩
  | .hbm, ⟨13, _⟩ => ⟨S256x128, .f32⟩
  | .local _ .vmem, ⟨0, _⟩ => ⟨S1x32, .f32⟩
  | .local _ .vmem, ⟨1, _⟩ => ⟨S32x8x5120, .bf16⟩
  | .local _ .vmem, ⟨2, _⟩ => ⟨S1x5120, .f32⟩
  | .local _ .vmem, ⟨3, _⟩ => ⟨S512x2560, .i8⟩
  | .local _ .vmem, ⟨4, _⟩ => ⟨S512x2560, .i8⟩
  | .local _ .vmem, ⟨5, _⟩ => ⟨S320x512, .fp8e4m3⟩
  | .local _ .vmem, ⟨6, _⟩ => ⟨S320x512, .fp8e4m3⟩
  | .local _ .vmem, ⟨7, _⟩ => ⟨S7x32, .i32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x5120, .f32⟩
  | .local _ .vmem, ⟨13, _⟩ => ⟨S256x5120, .bf16⟩
  | .local _ .vmem, ⟨14, _⟩ => ⟨S320x512, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .i32⟩
  | .local _ .vmem, ⟨19, _⟩ => ⟨S256x128, .f32⟩
  | .local _ .smem, ⟨0, _⟩ => ⟨S1, .f32⟩
  | _, _ => ⟨S32x8x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![148], ![false]⟩

def k0_cond2 (i : grid0.Coords) : BitVec 1 :=
  let arg0 : BitVec 32 := BitVec.ofNat 32 (i 0).val
  let c147_i32 : BitVec 32 := 147#32
  let v3385 : BitVec 1 := Scalar.cmpi .eq arg0 c147_i32
  let v3386 : BitVec 32 := Scalar.extui v3385
  let c0_i32_1405 : BitVec 32 := 0#32
  let v3387 : BitVec 1 := Scalar.cmpi .ne v3386 c0_i32_1405
  v3387

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S7x32 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x8x5120 : Shape := ⟨3, ![32, 8, 5120]⟩
abbrev S5120 : Shape := ⟨1, ![5120]⟩
abbrev S75776x2560 : Shape := ⟨2, ![75776, 2560]⟩
abbrev S75776x320 : Shape := ⟨2, ![75776, 320]⟩
abbrev S1 : Shape := ⟨1, ![1]⟩
abbrev S32 : Shape := ⟨1, ![32]⟩
abbrev S32x7 : Shape := ⟨2, ![32, 7]⟩
abbrev S_ : Shape := ⟨0, ![]⟩
abbrev S32x8 : Shape := ⟨2, ![32, 8]⟩
abbrev S32x8x1 : Shape := ⟨3, ![32, 8, 1]⟩
abbrev S1x1x5120 : Shape := ⟨3, ![1, 1, 5120]⟩
abbrev S75776x320x8 : Shape := ⟨3, ![75776, 320, 8]⟩
abbrev S32x8x2560 : Shape := ⟨3, ![32, 8, 2560]⟩
abbrev S32x8x75776 : Shape := ⟨3, ![32, 8, 75776]⟩
abbrev S1x1x1 : Shape := ⟨3, ![1, 1, 1]⟩
abbrev S32x1x1 : Shape := ⟨3, ![32, 1, 1]⟩
abbrev S75776 : Shape := ⟨1, ![75776]⟩
abbrev S32x7x1 : Shape := ⟨3, ![32, 7, 1]⟩
abbrev S1x1x75776 : Shape := ⟨3, ![1, 1, 75776]⟩
abbrev S32x7x75776 : Shape := ⟨3, ![32, 7, 75776]⟩
abbrev S8x32x75776 : Shape := ⟨3, ![8, 32, 75776]⟩
abbrev S256x75776 : Shape := ⟨2, ![256, 75776]⟩
abbrev S8x32 : Shape := ⟨2, ![8, 32]⟩
abbrev S256x1 : Shape := ⟨2, ![256, 1]⟩
abbrev S256x128 : Shape := ⟨2, ![256, 128]⟩

abbrev nBuf : Space → Nat
  | .hbm => 190
  | .vmem => 2
  | .smem => 0
  | _ => 0

abbrev hbmTy0_0 (i : Nat) : BufTy := match i % 128 with
  | 0 => ⟨S32x8x5120, .bf16⟩
  | 1 => ⟨S5120, .f32⟩
  | 2 => ⟨S75776x2560, .i8⟩
  | 3 => ⟨S75776x320, .fp8e4m3⟩
  | 4 => ⟨S1, .f32⟩
  | 5 => ⟨S32, .f32⟩
  | 6 => ⟨S32x7, .i32⟩
  | 7 => ⟨S32x8x5120, .f32⟩
  | 8 => ⟨S32x8x5120, .f32⟩
  | 9 => ⟨S_, .f32⟩
  | 10 => ⟨S32x8, .f32⟩
  | 11 => ⟨S32x8x1, .f32⟩
  | 12 => ⟨S_, .f32⟩
  | 13 => ⟨S32x8x1, .f32⟩
  | 14 => ⟨S32x8x1, .f32⟩
  | 15 => ⟨S_, .f32⟩
  | 16 => ⟨S32x8x1, .f32⟩
  | 17 => ⟨S32x8x1, .f32⟩
  | 18 => ⟨S32x8x1, .f32⟩
  | 19 => ⟨S32x8x5120, .f32⟩
  | 20 => ⟨S32x8x5120, .f32⟩
  | 21 => ⟨S1x1x5120, .f32⟩
  | 22 => ⟨S32x8x5120, .f32⟩
  | 23 => ⟨S32x8x5120, .f32⟩
  | 24 => ⟨S32x8x5120, .bf16⟩
  | 25 => ⟨S75776x320, .bf16⟩
  | 26 => ⟨S75776x320x8, .bf16⟩
  | 27 => ⟨S75776x2560, .bf16⟩
  | 28 => ⟨S75776x2560, .i32⟩
  | 29 => ⟨S_, .i32⟩
  | 30 => ⟨S75776x2560, .i32⟩
  | 31 => ⟨S75776x2560, .i32⟩
  | 32 => ⟨S_, .i32⟩
  | 33 => ⟨S75776x2560, .i32⟩
  | 34 => ⟨S75776x2560, .i32⟩
  | 35 => ⟨S_, .i32⟩
  | 36 => ⟨S75776x2560, .i32⟩
  | 37 => ⟨S75776x2560, .i1⟩
  | 38 => ⟨S_, .i32⟩
  | 39 => ⟨S75776x2560, .i32⟩
  | 40 => ⟨S75776x2560, .i32⟩
  | 41 => ⟨S_, .i32⟩
  | 42 => ⟨S75776x2560, .i32⟩
  | 43 => ⟨S75776x2560, .i1⟩
  | 44 => ⟨S_, .i32⟩
  | 45 => ⟨S75776x2560, .i32⟩
  | 46 => ⟨S75776x2560, .i32⟩
  | 47 => ⟨S_, .i32⟩
  | 48 => ⟨S75776x2560, .i32⟩
  | 49 => ⟨S75776x2560, .i1⟩
  | 50 => ⟨S_, .i32⟩
  | 51 => ⟨S75776x2560, .i32⟩
  | 52 => ⟨S75776x2560, .i32⟩
  | 53 => ⟨S_, .i32⟩
  | 54 => ⟨S75776x2560, .i32⟩
  | 55 => ⟨S75776x2560, .i1⟩
  | 56 => ⟨S_, .bf16⟩
  | 57 => ⟨S_, .bf16⟩
  | 58 => ⟨S75776x2560, .bf16⟩
  | 59 => ⟨S75776x2560, .bf16⟩
  | 60 => ⟨S75776x2560, .bf16⟩
  | 61 => ⟨S_, .bf16⟩
  | 62 => ⟨S_, .bf16⟩
  | 63 => ⟨S75776x2560, .bf16⟩
  | 64 => ⟨S75776x2560, .bf16⟩
  | 65 => ⟨S75776x2560, .bf16⟩
  | 66 => ⟨S75776x2560, .bf16⟩
  | 67 => ⟨S_, .bf16⟩
  | 68 => ⟨S_, .bf16⟩
  | 69 => ⟨S75776x2560, .bf16⟩
  | 70 => ⟨S75776x2560, .bf16⟩
  | 71 => ⟨S75776x2560, .bf16⟩
  | 72 => ⟨S_, .bf16⟩
  | 73 => ⟨S_, .bf16⟩
  | 74 => ⟨S75776x2560, .bf16⟩
  | 75 => ⟨S75776x2560, .bf16⟩
  | 76 => ⟨S75776x2560, .bf16⟩
  | 77 => ⟨S75776x2560, .bf16⟩
  | 78 => ⟨S75776x2560, .bf16⟩
  | 79 => ⟨S75776x2560, .bf16⟩
  | 80 => ⟨S75776x2560, .bf16⟩
  | 81 => ⟨S75776x2560, .bf16⟩
  | 82 => ⟨S_, .i32⟩
  | 83 => ⟨S75776x2560, .i32⟩
  | 84 => ⟨S75776x2560, .i32⟩
  | 85 => ⟨S_, .i32⟩
  | 86 => ⟨S75776x2560, .i32⟩
  | 87 => ⟨S75776x2560, .i32⟩
  | 88 => ⟨S_, .i32⟩
  | 89 => ⟨S75776x2560, .i32⟩
  | 90 => ⟨S75776x2560, .i1⟩
  | 91 => ⟨S_, .i32⟩
  | 92 => ⟨S75776x2560, .i32⟩
  | 93 => ⟨S75776x2560, .i32⟩
  | 94 => ⟨S_, .i32⟩
  | 95 => ⟨S75776x2560, .i32⟩
  | 96 => ⟨S75776x2560, .i1⟩
  | 97 => ⟨S_, .i32⟩
  | 98 => ⟨S75776x2560, .i32⟩
  | 99 => ⟨S75776x2560, .i32⟩
  | 100 => ⟨S_, .i32⟩
  | 101 => ⟨S75776x2560, .i32⟩
  | 102 => ⟨S75776x2560, .i1⟩
  | 103 => ⟨S_, .i32⟩
  | 104 => ⟨S75776x2560, .i32⟩
  | 105 => ⟨S75776x2560, .i32⟩
  | 106 => ⟨S_, .i32⟩
  | 107 => ⟨S75776x2560, .i32⟩
  | 108 => ⟨S75776x2560, .i1⟩
  | 109 => ⟨S_, .bf16⟩
  | 110 => ⟨S_, .bf16⟩
  | 111 => ⟨S75776x2560, .bf16⟩
  | 112 => ⟨S75776x2560, .bf16⟩
  | 113 => ⟨S75776x2560, .bf16⟩
  | 114 => ⟨S_, .bf16⟩
  | 115 => ⟨S_, .bf16⟩
  | 116 => ⟨S75776x2560, .bf16⟩
  | 117 => ⟨S75776x2560, .bf16⟩
  | 118 => ⟨S75776x2560, .bf16⟩
  | 119 => ⟨S75776x2560, .bf16⟩
  | 120 => ⟨S_, .bf16⟩
  | 121 => ⟨S_, .bf16⟩
  | 122 => ⟨S75776x2560, .bf16⟩
  | 123 => ⟨S75776x2560, .bf16⟩
  | 124 => ⟨S75776x2560, .bf16⟩
  | 125 => ⟨S_, .bf16⟩
  | 126 => ⟨S_, .bf16⟩
  | 127 => ⟨S75776x2560, .bf16⟩
  | _ => ⟨S32x8x5120, .bf16⟩

abbrev hbmTy0_1 (i : Nat) : BufTy := match i % 128 with
  | 0 => ⟨S75776x2560, .bf16⟩
  | 1 => ⟨S75776x2560, .bf16⟩
  | 2 => ⟨S75776x2560, .bf16⟩
  | 3 => ⟨S75776x2560, .bf16⟩
  | 4 => ⟨S75776x2560, .bf16⟩
  | 5 => ⟨S75776x2560, .bf16⟩
  | 6 => ⟨S75776x2560, .bf16⟩
  | 7 => ⟨S32x8x2560, .bf16⟩
  | 8 => ⟨S32x8x75776, .f32⟩
  | 9 => ⟨S32x8x2560, .bf16⟩
  | 10 => ⟨S32x8x75776, .f32⟩
  | 11 => ⟨S32x8x75776, .f32⟩
  | 12 => ⟨S1x1x1, .f32⟩
  | 13 => ⟨S32x8x75776, .f32⟩
  | 14 => ⟨S32x8x75776, .f32⟩
  | 15 => ⟨S32x1x1, .f32⟩
  | 16 => ⟨S32x8x75776, .f32⟩
  | 17 => ⟨S32x8x75776, .f32⟩
  | 18 => ⟨S_, .f32⟩
  | 19 => ⟨S32x8x75776, .f32⟩
  | 20 => ⟨S32x8x75776, .f32⟩
  | 21 => ⟨S_, .f32⟩
  | 22 => ⟨S32x8, .f32⟩
  | 23 => ⟨S32x8, .f32⟩
  | 24 => ⟨S32x8x1, .f32⟩
  | 25 => ⟨S32x8x75776, .f32⟩
  | 26 => ⟨S32x8x75776, .f32⟩
  | 27 => ⟨S_, .f32⟩
  | 28 => ⟨S32x8x75776, .f32⟩
  | 29 => ⟨S32x8x75776, .f32⟩
  | 30 => ⟨S_, .f32⟩
  | 31 => ⟨S32x8, .f32⟩
  | 32 => ⟨S32x8, .f32⟩
  | 33 => ⟨S_, .f32⟩
  | 34 => ⟨S_, .f32⟩
  | 35 => ⟨S32x8, .f32⟩
  | 36 => ⟨S32x8, .f32⟩
  | 37 => ⟨S32x8, .f32⟩
  | 38 => ⟨S75776, .i32⟩
  | 39 => ⟨S32x7x1, .i32⟩
  | 40 => ⟨S1x1x75776, .i32⟩
  | 41 => ⟨S32x7x75776, .i32⟩
  | 42 => ⟨S32x7x75776, .i32⟩
  | 43 => ⟨S32x7x75776, .i1⟩
  | 44 => ⟨S32x7x75776, .f32⟩
  | 45 => ⟨S_, .f32⟩
  | 46 => ⟨S_, .f32⟩
  | 47 => ⟨S32x7x75776, .f32⟩
  | 48 => ⟨S32x7x75776, .f32⟩
  | 49 => ⟨S_, .f32⟩
  | 50 => ⟨S32x7, .f32⟩
  | 51 => ⟨S_, .i32⟩
  | 52 => ⟨S_, .f32⟩
  | 53 => ⟨S32x8, .f32⟩
  | 54 => ⟨S8x32x75776, .f32⟩
  | 55 => ⟨S256x75776, .f32⟩
  | 56 => ⟨S8x32, .f32⟩
  | 57 => ⟨S256x1, .f32⟩
  | 58 => ⟨S256x128, .f32⟩
  | 59 => ⟨S8x32, .f32⟩
  | 60 => ⟨S256x1, .f32⟩
  | 61 => ⟨S256x128, .f32⟩
  | _ => ⟨S32x8x5120, .bf16⟩

abbrev hbmTy (i : Nat) : BufTy := match i / 128 with
  | 0 => hbmTy0_0 i
  | 1 => hbmTy0_1 i
  | _ => ⟨S32x8x5120, .bf16⟩

abbrev bufTy : (tb : Table) → Fin (tcTables nBuf tb) → BufTy
  | .hbm, ⟨i, _⟩ => hbmTy i
  | .local _ .vmem, ⟨0, _⟩ => ⟨S75776x320, .fp8e4m3⟩
  | .local _ .vmem, ⟨1, _⟩ => ⟨S75776x320, .bf16⟩
  | _, _ => ⟨S32x8x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_cst_11 : Ref sig .tc := ⟨.hbm, 57, rfl⟩
abbrev main_call0_v0 : Ref sig .tc := ⟨.hbm, 58, rfl⟩
abbrev main_call0_v1 : Ref sig .tc := ⟨.hbm, 59, rfl⟩
abbrev main_v37 : Ref sig .tc := ⟨.hbm, 60, rfl⟩
abbrev main_cst_12 : Ref sig .tc := ⟨.hbm, 61, rfl⟩
abbrev main_cst_13 : Ref sig .tc := ⟨.hbm, 62, rfl⟩
abbrev main_call1_v0 : Ref sig .tc := ⟨.hbm, 63, rfl⟩
abbrev main_call1_v1 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_cst_15 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩
abbrev main_cst_16 : Ref sig .tc := ⟨.hbm, 72, rfl⟩
abbrev main_cst_17 : Ref sig .tc := ⟨.hbm, 73, rfl⟩
abbrev main_call4_v0 : Ref sig .tc := ⟨.hbm, 74, rfl⟩
abbrev main_call4_v1 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_18 : Ref sig .tc := ⟨.hbm, 82, rfl⟩
abbrev main_v47 : Ref sig .tc := ⟨.hbm, 83, rfl⟩
abbrev main_v48 : Ref sig .tc := ⟨.hbm, 84, rfl⟩
abbrev main_c_19 : Ref sig .tc := ⟨.hbm, 85, rfl⟩
abbrev main_v49 : Ref sig .tc := ⟨.hbm, 86, rfl⟩
abbrev main_v50 : Ref sig .tc := ⟨.hbm, 87, rfl⟩
abbrev main_c_20 : Ref sig .tc := ⟨.hbm, 88, rfl⟩
abbrev main_v51 : Ref sig .tc := ⟨.hbm, 89, rfl⟩
abbrev main_v52 : Ref sig .tc := ⟨.hbm, 90, rfl⟩
abbrev main_c_21 : Ref sig .tc := ⟨.hbm, 91, rfl⟩
abbrev main_v53 : Ref sig .tc := ⟨.hbm, 92, rfl⟩
abbrev main_v54 : Ref sig .tc := ⟨.hbm, 93, rfl⟩
abbrev main_c_22 : Ref sig .tc := ⟨.hbm, 94, rfl⟩
abbrev main_v55 : Ref sig .tc := ⟨.hbm, 95, rfl⟩
abbrev main_v56 : Ref sig .tc := ⟨.hbm, 96, rfl⟩
abbrev main_c_23 : Ref sig .tc := ⟨.hbm, 97, rfl⟩
abbrev main_v57 : Ref sig .tc := ⟨.hbm, 98, rfl⟩
abbrev main_v58 : Ref sig .tc := ⟨.hbm, 99, rfl⟩
abbrev main_c_24 : Ref sig .tc := ⟨.hbm, 100, rfl⟩
abbrev main_v59 : Ref sig .tc := ⟨.hbm, 101, rfl⟩
abbrev main_v60 : Ref sig .tc := ⟨.hbm, 102, rfl⟩
abbrev main_c_25 : Ref sig .tc := ⟨.hbm, 103, rfl⟩
abbrev main_v61 : Ref sig .tc := ⟨.hbm, 104, rfl⟩
abbrev main_v62 : Ref sig .tc := ⟨.hbm, 105, rfl⟩
abbrev main_c_26 : Ref sig .tc := ⟨.hbm, 106, rfl⟩
abbrev main_v63 : Ref sig .tc := ⟨.hbm, 107, rfl⟩
abbrev main_v64 : Ref sig .tc := ⟨.hbm, 108, rfl⟩
abbrev main_cst_27 : Ref sig .tc := ⟨.hbm, 109, rfl⟩
abbrev main_cst_28 : Ref sig .tc := ⟨.hbm, 110, rfl⟩
abbrev main_call8_v0 : Ref sig .tc := ⟨.hbm, 111, rfl⟩
abbrev main_call8_v1 : Ref sig .tc := ⟨.hbm, 112, rfl⟩
abbrev main_v65 : Ref sig .tc := ⟨.hbm, 113, rfl⟩
abbrev main_cst_29 : Ref sig .tc := ⟨.hbm, 114, rfl⟩
abbrev main_cst_30 : Ref sig .tc := ⟨.hbm, 115, rfl⟩
abbrev main_call9_v0 : Ref sig .tc := ⟨.hbm, 116, rfl⟩
abbrev main_call9_v1 : Ref sig .tc := ⟨.hbm, 117, rfl⟩
abbrev main_v66 : Ref sig .tc := ⟨.hbm, 118, rfl⟩
abbrev main_v67 : Ref sig .tc := ⟨.hbm, 119, rfl⟩
abbrev main_cst_31 : Ref sig .tc := ⟨.hbm, 120, rfl⟩
abbrev main_cst_32 : Ref sig .tc := ⟨.hbm, 121, rfl⟩
abbrev main_call11_v0 : Ref sig .tc := ⟨.hbm, 122, rfl⟩
abbrev main_call11_v1 : Ref sig .tc := ⟨.hbm, 123, rfl⟩
abbrev main_v68 : Ref sig .tc := ⟨.hbm, 124, rfl⟩
abbrev main_cst_33 : Ref sig .tc := ⟨.hbm, 125, rfl⟩
abbrev main_cst_34 : Ref sig .tc := ⟨.hbm, 126, rfl⟩
abbrev main_call12_v0 : Ref sig .tc := ⟨.hbm, 127, rfl⟩
abbrev main_call12_v1 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_35 : Ref sig .tc := ⟨.hbm, 146, rfl⟩
abbrev main_v86 : Ref sig .tc := ⟨.hbm, 147, rfl⟩
abbrev main_v87 : Ref sig .tc := ⟨.hbm, 148, rfl⟩
abbrev main_cst_36 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_37 : Ref sig .tc := ⟨.hbm, 155, rfl⟩
abbrev main_v93 : Ref sig .tc := ⟨.hbm, 156, rfl⟩
abbrev main_v94 : Ref sig .tc := ⟨.hbm, 157, rfl⟩
abbrev main_cst_38 : Ref sig .tc := ⟨.hbm, 158, rfl⟩
abbrev main_v95 : Ref sig .tc := ⟨.hbm, 159, rfl⟩
abbrev main_v96 : Ref sig .tc := ⟨.hbm, 160, rfl⟩
abbrev main_cst_39 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_40 : Ref sig .tc := ⟨.hbm, 173, rfl⟩
abbrev main_call16_v0 : Ref sig .tc := ⟨.hbm, 174, rfl⟩
abbrev main_call16_v1 : Ref sig .tc := ⟨.hbm, 175, rfl⟩
abbrev main_v108 : Ref sig .tc := ⟨.hbm, 176, rfl⟩
abbrev main_cst_41 : Ref sig .tc := ⟨.hbm, 177, rfl⟩
abbrev main_v109 : Ref sig .tc := ⟨.hbm, 178, rfl⟩
abbrev main_c_42 : Ref sig .tc := ⟨.hbm, 179, rfl⟩
abbrev main_call17_v0 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S75776x320 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S75776x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Tile.lean ====
/- One step of the `head` kernel's product over the model axis: 256 columns of the activations times a decoded block of
   weights, read at an index. The decoding of a four-bit code by the kernel is the one the reference writes. -/
module

public import proofs.«01_k».proof.Proof.Gen.HeadIdeal.Skeleton
public import Idealize.ShloMosaic.Lib.ValueIdx
public import Idealize.ShloMosaic.Lib.IdealHost
public import Idealize.ShloMosaic.Lib.MatmulPlain
public import Idealize.ShloMosaic.Lib.Pipeline.Value

@[expose] public section

set_option maxRecDepth 16384

noncomputable section

namespace Cert.HeadValue

open Cert.HeadIdeal Cert.HeadIdeal.Gen Idealize.ShloMosaic Idealize.ShloMosaic.ValueIdx

/-- The value the kernel decodes a code to. -/
def kdec (c : BitVec 32) : EReal :=
  let e := IntOp.andi c 7#32
  let twice := Scalar.select (IntOp.cmpi .slt e 4#32) e
    (Scalar.select (IntOp.cmpi .slt e 6#32) (IntOp.subi (IntOp.muli 2#32 e) 4#32) (IntOp.subi (IntOp.muli 4#32 e) 16#32))
  let mag : EReal := ((twice.toInt : ℝ) : EReal) * Ideal.ofBits .f32 0x3F000000#32
  Scalar.select (IntOp.cmpi .slt c 8#32) mag (Ideal.ofBits .f32 0x00000000#32 - mag)

/-- The value the reference decodes a code to. -/
def rdec (c : BitVec 32) : EReal :=
  let bit (k : BitVec 32) := IntOp.cmpi .ne (IntOp.andi c k) 0#32
  let small : EReal := Scalar.select (bit 2#32)
    (Scalar.select (bit 1#32) (Ideal.ofBits .bf16 0x3FC0#16) (Ideal.ofBits .bf16 0x3F80#16))
    (Scalar.select (bit 1#32) (Ideal.ofBits .bf16 0x3F00#16) (Ideal.ofBits .bf16 0x0000#16))
  let large : EReal := Scalar.select (bit 2#32)
    (Scalar.select (bit 1#32) (Ideal.ofBits .bf16 0x40C0#16) (Ideal.ofBits .bf16 0x4080#16))
    (Scalar.select (bit 1#32) (Ideal.ofBits .bf16 0x4040#16) (Ideal.ofBits .bf16 0x4000#16))
  let mag := Scalar.select (bit 4#32) large small
  Scalar.select (bit 8#32) (-mag) mag

theorem half : Ideal.ofBits .f32 0x3F000000#32 = ((1 / 2 : ℝ) : EReal) := by
  simp [Ideal.ofBits, Ideal.ieee, -EReal.coe_mul]; norm_num
theorem bf_half : Ideal.ofBits .bf16 0x3F00#16 = ((1 / 2 : ℝ) : EReal) := by
  simp [Ideal.ofBits, Ideal.ieee, -EReal.coe_mul]; norm_num
theorem bf_one : Ideal.ofBits .bf16 0x3F80#16 = ((1 : ℝ) : EReal) := by
  simp [Ideal.ofBits, Ideal.ieee, -EReal.coe_mul]; norm_num
theorem bf_15 : Ideal.ofBits .bf16 0x3FC0#16 = ((3 / 2 : ℝ) : EReal) := by
  simp [Ideal.ofBits, Ideal.ieee, -EReal.coe_mul]; norm_num
theorem bf_two : Ideal.ofBits .bf16 0x4000#16 = ((2 : ℝ) : EReal) := by
  simp [Ideal.ofBits, Ideal.ieee, -EReal.coe_mul]; norm_num
theorem bf_three : Ideal.ofBits .bf16 0x4040#16 = ((3 : ℝ) : EReal) := by
  simp [Ideal.ofBits, Ideal.ieee, -EReal.coe_mul]; norm_num
theorem bf_four : Ideal.ofBits .bf16 0x4080#16 = ((4 : ℝ) : EReal) := by
  simp [Ideal.ofBits, Ideal.ieee, -EReal.coe_mul]; norm_num
theorem bf_six : Ideal.ofBits .bf16 0x40C0#16 = ((6 : ℝ) : EReal) := by
  simp [Ideal.ofBits, Ideal.ieee, -EReal.coe_mul]; norm_num
theorem bf_zero : Ideal.ofBits .bf16 0x0000#16 = ((0 : ℝ) : EReal) := by simp [Ideal.ofBits, Ideal.ieee]
theorem f_zero : Ideal.ofBits .f32 0x00000000#32 = ((0 : ℝ) : EReal) := by simp [Ideal.ofBits, Ideal.ieee]

/-- The two decodings agree on the sixteen codes. -/
theorem kdec_eq (c : BitVec 32) (hc : c.toNat < 16) : kdec c = rdec c := by
  obtain ⟨k, hk⟩ : ∃ k, c.toNat = k := ⟨_, rfl⟩
  obtain rfl : c = BitVec.ofNat 32 k := by rw [← hk, BitVec.ofNat_toNat, BitVec.setWidth_eq]
  rw [hk] at hc
  clear hk
  interval_cases k <;>
    simp only [kdec, rdec, half, bf_half, bf_one, bf_15, bf_two, bf_three, bf_four, bf_six, bf_zero, f_zero,
      ← EReal.coe_mul, ← EReal.coe_sub, ← EReal.coe_neg] <;>
    simp [Scalar.select, IntOp.cmpi, IntOp.andi, IntOp.subi, IntOp.muli, -EReal.coe_mul, -EReal.coe_sub, -EReal.coe_neg] <;>
    norm_num

/-- The code of row `n` of a decoded block: a byte's low bits on an even row, its high ones on an odd row. -/
def kcode (n : ℕ) (b : BitVec 8) : BitVec 32 :=
  Scalar.select (IntOp.cmpi .eq (IntOp.andi (BitVec.ofNat 32 n) 1#32) 1#32)
    (IntOp.shrsi .vector (b.setWidth 32) 4#32) (IntOp.andi (b.setWidth 32) 15#32)

theorem kcode_even (r : ℕ) (hr : r < 128) (b : BitVec 8) : kcode (2 * r) b = IntOp.andi (b.setWidth 32) 15#32 := by
  unfold kcode
  have : IntOp.cmpi .eq (IntOp.andi (BitVec.ofNat 32 (2 * r)) 1#32) 1#32 = 0#1 := by
    interval_cases r <;> rfl
  rw [this]; rfl

theorem kcode_odd (r : ℕ) (hr : r < 128) (b : BitVec 8) : kcode (2 * r + 1) b = IntOp.shrsi .vector (b.setWidth 32) 4#32 := by
  unfold kcode
  have : IntOp.cmpi .eq (IntOp.andi (BitVec.ofNat 32 (2 * r + 1)) 1#32) 1#32 = 1#1 := by
    interval_cases r <;> rfl
  rw [this]; rfl

theorem low_lt (b : BitVec 8) : (IntOp.andi (b.setWidth 32) 15#32).toNat < 16 := by
  revert b; decide

theorem high_lt (b : BitVec 8) : (IntOp.shrsi .vector (b.setWidth 32) 4#32).toNat < 16 := by
  revert b; decide

theorem high_host (b : BitVec 8) : IntOp.shrsi .host (b.setWidth 32) 4#32 = IntOp.shrsi .vector (b.setWidth 32) 4#32 := by
  revert b; decide

/-- A step's product, as the kernel's first step computes it. -/
def stepTile (wp : Vec Ideal S512x128 .i8) (sw : Vec Ideal S16x512 .f32) (hk : Vec Ideal S256x256 .bf16) : FVec Ideal S256x512 .f32 :=
  k0_pay369 (F := Ideal) (k0_pay363 wp) (k0_pay364 wp) (k0_pay365 wp) (k0_pay366 wp) (k0_pay367 wp) (k0_pay368 wp) 16#32 sw hk

theorem code_at (wp : Vec Ideal S512x128 .i8) (i : Fin 256) (q : Fin 512) :
    k0_pay363 (F := Ideal) wp (ix2 (n0 := 256) (n1 := 512) i q)
      = kcode i.val (wp (ix2 (n0 := 512) (n1 := 128) q ⟨i.val / 2, by omega⟩)) := by
  unfold k0_pay363
  have h15 : ∀ v : IVec S128x512 8, shapeCast S256x512 (broadcastTo S128x2x512 (shapeCast S128x1x512 (shapeCast S128x1x512
      (extui 32 v natLt_8_32) shapeCasts_S128x512_S128x1x512) shapeCasts_S128x1x512_S128x1x512) broadcasts_S128x1x512_S128x2x512)
      shapeCasts_S128x2x512_S256x512 (ix2 (n0 := 256) (n1 := 512) i q)
        = (v (ix2 (n0 := 128) (n1 := 512) ⟨i.val / 2, by omega⟩ q)).setWidth 32 := by
    intro v
    rw [shapeCast_self]
    rw [shapeCast_apply _ _ _ (ix3 (n0 := 128) (n1 := 2) (n2 := 512) ⟨i.val / 2, by omega⟩ ⟨i.val % 2, by omega⟩ q) (by
      rw [Shape.rowMajor_val_three, Shape.rowMajor_val_two]
      show (i.val / 2 * 2 + i.val % 2) * 512 + q.val = i.val * 512 + q.val
      omega)]
    rw [broadcastTo_apply _ _ _ (ix3 (n0 := 128) (n1 := 1) (n2 := 512) ⟨i.val / 2, by omega⟩ 0 q) (fun a => by
      match a with
      | 0 => rfl
      | 1 => rfl
      | 2 => rfl)]
    rw [shapeCast_apply _ _ _ (ix2 (n0 := 128) (n1 := 512) ⟨i.val / 2, by omega⟩ q) (by
      rw [Shape.rowMajor_val_three, Shape.rowMajor_val_two]
      show i.val / 2 * 512 + q.val = (i.val / 2 * 1 + 0) * 512 + q.val
      omega)]
    rfl
  have ht : transpose S128x512 [1, 0] wp transposes_S512x128_p1_0_S128x512 (ix2 (n0 := 128) (n1 := 512) ⟨i.val / 2, by omega⟩ q)
      = wp (ix2 (n0 := 512) (n1 := 128) q ⟨i.val / 2, by omega⟩) :=
    transpose_apply _ _ _ _ _ (fun b => by match b with | 0 => rfl | 1 => rfl)
  show Scalar.select _ (IntOp.shrsi .vector (shapeCast S256x512 _ _ _) 4#32) (IntOp.andi (shapeCast S256x512 _ _ _) 15#32) = _
  rw [h15, ht]
  have hi : iota .tc S256x512 32 [0] iota_S256x512_d0_w32 (ix2 (n0 := 256) (n1 := 512) i q) = BitVec.ofNat 32 i.val :=
    congrArg (BitVec.ofNat 32) (Nat.zero_add _)
  unfold kcode
  rw [← hi]
  rfl

theorem scale_at (sw : Vec Ideal S16x512 .f32) (i : Fin 256) (q : Fin 512) :
    shapeCast S256x512 (broadcastTo S16x16x512 (shapeCast S16x1x512 (shapeCast S16x1x512 sw shapeCasts_S16x512_S16x1x512)
      shapeCasts_S16x1x512_S16x1x512) broadcasts_S16x1x512_S16x16x512) shapeCasts_S16x16x512_S256x512 (ix2 (n0 := 256) (n1 := 512) i q)
      = sw (ix2 (n0 := 16) (n1 := 512) ⟨i.val / 16, by omega⟩ q) := by
  rw [shapeCast_self]
  rw [shapeCast_apply _ _ _ (ix3 (n0 := 16) (n1 := 16) (n2 := 512) ⟨i.val / 16, by omega⟩ ⟨i.val % 16, by omega⟩ q) (by
    rw [Shape.rowMajor_val_three, Shape.rowMajor_val_two]
    show (i.val / 16 * 16 + i.val % 16) * 512 + q.val = i.val * 512 + q.val
    omega)]
  rw [broadcastTo_apply _ _ _ (ix3 (n0 := 16) (n1 := 1) (n2 := 512) ⟨i.val / 16, by omega⟩ 0 q) (fun a => by
    match a with
    | 0 => rfl
    | 1 => rfl
    | 2 => rfl)]
  rw [shapeCast_apply _ _ _ (ix2 (n0 := 16) (n1 := 512) ⟨i.val / 16, by omega⟩ q) (by
    rw [Shape.rowMajor_val_three, Shape.rowMajor_val_two]
    show i.val / 16 * 512 + q.val = (i.val / 16 * 1 + 0) * 512 + q.val
    omega)]

theorem stepTile_at (wp : Vec Ideal S512x128 .i8) (sw : Vec Ideal S16x512 .f32) (hk : Vec Ideal S256x256 .bf16)
    (R : Fin 256) (q : Fin 512) :
    stepTile wp sw hk (ix2 (n0 := 256) (n1 := 512) R q)
      = ∑ i : Fin 256, hk (ix2 (n0 := 256) (n1 := 256) R i)
          * (kdec (kcode i.val (wp (ix2 (n0 := 512) (n1 := 128) q ⟨i.val / 2, by omega⟩)))
            * sw (ix2 (n0 := 16) (n1 := 512) ⟨i.val / 16, by omega⟩ q)) := by
  unfold stepTile k0_pay369
  refine (Ideal.matmul_plain_apply (M := 256) (K := 256) (N := 512) none _ _ _ R q).trans ?_
  rw [show (constant (F := Ideal) S256x512 .f32 0x00000000#32) (ix2 (n0 := 256) (n1 := 512) R q) = 0 from Ideal.ofBits_zero_f32, zero_add]
  refine Finset.sum_congr rfl fun i _ => congrArg (hk _ * ·) ?_
  rw [← code_at, ← scale_at sw i q]
  rfl

end Cert.HeadValue

end
-- ==== Proof.Step.lean ====
/- The `head` kernel's product over the model axis as a sum over its steps of 256 columns, one step at a time, whatever
   arrays the steps read; and reads of a buffer written whole. -/
module

public import proofs.«01_k».proof.Proof.Tile
public import Idealize.ShloMosaic.Lib.Pipeline.Value
public import Idealize.ShloMosaic.Lib.Pipeline.FrameBody

@[expose] public section

set_option maxRecDepth 16384

noncomputable section

namespace Cert.HeadValue

open Cert.HeadIdeal Cert.HeadIdeal.Gen Idealize.ShloMosaic Idealize.ShloMosaic.TcCoe Idealize.ShloMosaic.ValueIdx

/-- An array at natural coordinates, `d` outside it. -/
def atN {α : Type} {n0 n1 : ℕ} (d : α) (x : (⟨2, ![n0, n1]⟩ : Shape).Idx → α) (a b : ℕ) : α :=
  if h : a < n0 ∧ b < n1 then x (ix2 ⟨a, h.1⟩ ⟨b, h.2⟩) else d

theorem atN_ix {α : Type} {n0 n1 : ℕ} (d : α) (x : (⟨2, ![n0, n1]⟩ : Shape).Idx → α) (a : Fin n0) (b : Fin n1) :
    atN d x a.val b.val = x (ix2 a b) := dif_pos ⟨a.isLt, b.isLt⟩

theorem atN_idx {α : Type} {n0 n1 : ℕ} (d : α) (x : (⟨2, ![n0, n1]⟩ : Shape).Idx → α) (y : (⟨2, ![n0, n1]⟩ : Shape).Idx) {a b : ℕ}
    (ha : (y 0).val = a) (hb : (y 1).val = b) : x y = atN d x a b := by
  subst ha hb
  rw [atN_ix d x (y 0) (y 1)]
  exact congrArg x (eq_ix2 y)

variable (H : FVec Ideal S256x5120 .bf16) (W : Vec Ideal S512x2560 .i8) (S : Vec Ideal S320x512 .f32)

/-- One step's contribution at a row and a column of the tile. -/
def term (k R q : ℕ) : EReal :=
  ∑ i : Fin 256, atN (0 : EReal) H R (256 * k + i.val)
    * (kdec (kcode i.val (atN (0#8) W q (128 * k + i.val / 2))) * atN (0 : EReal) S (16 * k + i.val / 16) q)

variable {H W S}

theorem step_at {n : ℕ} {w : Vec Ideal S512x128 .i8} {s : Vec Ideal S16x512 .f32} {h : Vec Ideal S256x256 .bf16}
    (hh : ∀ x : S256x256.Idx, h x = atN (0 : EReal) H (x 0).val (256 * n + (x 1).val))
    (hw : ∀ x : S512x128.Idx, w x = atN (0#8) W (x 0).val (128 * n + (x 1).val))
    (hs : ∀ x : S16x512.Idx, s x = atN (0 : EReal) S (16 * n + (x 0).val) (x 1).val) (R : Fin 256) (q : Fin 512) :
    stepTile w s h (ix2 (n0 := 256) (n1 := 512) R q) = term H W S n R.val q.val := by
  rw [stepTile_at]
  unfold term
  refine Finset.sum_congr rfl fun i _ => ?_
  rw [hh, hw, hs]

/-- The first step. -/
theorem first_step {v : FVec Ideal S256x512 .f32} {w : Vec Ideal S512x128 .i8} {s : Vec Ideal S16x512 .f32}
    {h : Vec Ideal S256x256 .bf16} (hv : v = stepTile w s h)
    (hh : ∀ x : S256x256.Idx, h x = atN (0 : EReal) H (x 0).val (256 * 0 + (x 1).val))
    (hw : ∀ x : S512x128.Idx, w x = atN (0#8) W (x 0).val (128 * 0 + (x 1).val))
    (hs : ∀ x : S16x512.Idx, s x = atN (0 : EReal) S (16 * 0 + (x 0).val) (x 1).val) (R : Fin 256) (q : Fin 512) :
    v (ix2 (n0 := 256) (n1 := 512) R q) = ∑ k ∈ Finset.range 1, term H W S k R.val q.val := by
  rw [hv, step_at hh hw hs, Finset.sum_range_one]

/-- Any further step. -/
theorem add_step {n : ℕ} {v u : FVec Ideal S256x512 .f32} {w : Vec Ideal S512x128 .i8} {s : Vec Ideal S16x512 .f32}
    {h : Vec Ideal S256x256 .bf16} (hv : v = addf u (stepTile w s h))
    (hu : ∀ (R : Fin 256) (q : Fin 512), u (ix2 (n0 := 256) (n1 := 512) R q) = ∑ k ∈ Finset.range n, term H W S k R.val q.val)
    (hh : ∀ x : S256x256.Idx, h x = atN (0 : EReal) H (x 0).val (256 * n + (x 1).val))
    (hw : ∀ x : S512x128.Idx, w x = atN (0#8) W (x 0).val (128 * n + (x 1).val))
    (hs : ∀ x : S16x512.Idx, s x = atN (0 : EReal) S (16 * n + (x 0).val) (x 1).val) (R : Fin 256) (q : Fin 512) :
    v (ix2 (n0 := 256) (n1 := 512) R q) = ∑ k ∈ Finset.range (n + 1), term H W S k R.val q.val := by
  rw [hv, Finset.sum_range_succ, ← hu R q, ← step_at hh hw hs R q]
  rfl

section Reads
variable {sp : Space} {e : EltTy} {n0 n1 m0 m1 : ℕ} (d : Elt Ideal e)

/-- A block of a buffer holding `X`, read at natural coordinates. -/
theorem read_block {M : Memref sig .tc sp ⟨2, ![n0, n1]⟩ e} (hM : M.IsWhole) (X : Vec Ideal ⟨2, ![n0, n1]⟩ e) {o p : ℕ}
    {inb : ∀ a, (![o, p] : Fin 2 → ℕ) a + (![m0, m1] : Fin 2 → ℕ) a ≤ (⟨2, ![n0, n1]⟩ : Shape).size a} {f g : ℕ → ℕ}
    (hf : ∀ a, o + a = f a) (hg : ∀ b, p + b = g b)
    (x : (⟨2, ![m0, m1]⟩ : Shape).Idx) :
    M.view.readAt (Elt Ideal) (Rect.unit (s := ⟨2, ![n0, n1]⟩) ![o, p] ![m0, m1] inb).toLoadRect (hM.unread X) x
      = atN d X (f (x 0).val) (g (x 1).val) := by
  rw [View.readAt_eq_ld, hM.read_unread]
  refine atN_idx d X _ ?_ ?_
  · rw [← hf]; show o + 1 * (x 0).val = _; rw [Nat.one_mul]
  · rw [← hg]; show p + 1 * (x 1).val = _; rw [Nat.one_mul]

/-- A block of a buffer stored whole with `X`, the same. -/
theorem cov_block {κ : Kind} (v : View sig κ sp ⟨2, ![n0, n1]⟩ e) (X : Vec Ideal ⟨2, ![n0, n1]⟩ e)
    {inb' : ∀ a, (![0, 0] : Fin 2 → ℕ) a + (⟨2, ![n0, n1]⟩ : Shape).size a ≤ (⟨2, ![n0, n1]⟩ : Shape).size a} {o p : ℕ}
    {inb : ∀ a, (![o, p] : Fin 2 → ℕ) a + (![m0, m1] : Fin 2 → ℕ) a ≤ (⟨2, ![n0, n1]⟩ : Shape).size a} {f g : ℕ → ℕ}
    (hf : ∀ a, o + a = f a) (hg : ∀ b, p + b = g b) (x : (⟨2, ![m0, m1]⟩ : Shape).Idx) :
    v.readCov (Val := Elt Ideal) [⟨Rect.unit (s := ⟨2, ![n0, n1]⟩) ![0, 0] (⟨2, ![n0, n1]⟩ : Shape).size inb', X⟩]
        (Rect.unit (s := ⟨2, ![n0, n1]⟩) ![o, p] ![m0, m1] inb).toLoadRect x
      = atN d X (f (x 0).val) (g (x 1).val) := by
  rw [View.readCov_eq_canon', View.canon_unit_zero (by funext a; match a with | 0 => rfl | 1 => rfl)]
  refine atN_idx d X _ ?_ ?_
  · rw [← hf]; show o + 1 * (x 0).val = _; rw [Nat.one_mul]
  · rw [← hg]; show p + 1 * (x 1).val = _; rw [Nat.one_mul]

end Reads

/-- The scales a tile's whole store leaves are the scales it was given. -/
theorem scales_eq (x : Vec Ideal S320x512 .fp8e4m3) (y : S320x512.Idx) : k0_pay362 (F := Ideal) x y = x y := by
  unfold k0_pay362
  simp only [shapeCast_self]
  rfl

end Cert.HeadValue

end
-- ==== Proof.AccA.lean ====
/- The tile's products at the first grid point, read at an index. -/
module

public import proofs.«01_k».proof.Proof.Gen.HeadIdeal.Frame.RunA
public import proofs.«01_k».proof.Proof.Step

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

section

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32)

/-- The activations the first point leaves. -/
abbrev hA : FVec Ideal S256x5120 .bf16 := k0_pay337 (F := Ideal) (kernelRun0_A.sl.v4956 c arg3 harg3 arg4 harg4 arg11 x2 x3)

/-- A tile's scales as the body reads them. -/
abbrev scA : FVec Ideal S320x512 .f32 := k0_pay362 (F := Ideal) (View.readAt (Elt Ideal) arg6.view
  (Rect.unit (s := S320x512) ![0, 0] S320x512.size inb_S320x512_S320x512_0_0).toLoadRect (harg6.unread x5))

/-- The weights, scales and activations step `n` reads. -/
abbrev wA (n : ℕ) (hn : n < 20) : Vec Ideal S512x128 .i8 := View.readAt (Elt Ideal) arg5.view (Rect.unit (s := S512x2560) ![0, 128 * n] S512x128.size
  (fun a => by match a with | 0 => exact Nat.le_of_ble_eq_true rfl | 1 => show 128 * n + 128 ≤ 2560; omega)).toLoadRect (harg5.unread x4)
abbrev sA (n : ℕ) (hn : n < 20) : Vec Ideal S16x512 .f32 := arg13.view.readCov (Val := Elt Ideal) (kernelRun0_A.sl.HS2_1 c arg6 harg6 x5)
  (Rect.unit (s := S320x512) ![16 * n, 0] S16x512.size
  (fun a => by match a with | 0 => show 16 * n + 16 ≤ 320; omega | 1 => exact Nat.le_of_ble_eq_true rfl)).toLoadRect
abbrev hkA (n : ℕ) (hn : n < 20) : Vec Ideal S256x256 .bf16 := arg12.view.readCov (Val := Elt Ideal) (kernelRun0_A.sl.HS1_1 c arg3 harg3 arg4 harg4 arg11 x2 x3)
  (Rect.unit (s := S256x5120) ![0, 256 * n] S256x256.size
  (fun a => by match a with | 0 => exact Nat.le_of_ble_eq_true rfl | 1 => show 256 * n + 256 ≤ 5120; omega)).toLoadRect

section
variable {n : ℕ} (hn : n < 20) {v u : FVec Ideal S256x512 .f32}

theorem A_first (hv : v = stepTile (wA arg5 harg5 x4 0 (by decide)) (sA c arg6 harg6 arg13 x5 0 (by decide))
    (hkA c arg3 harg3 arg4 harg4 arg11 arg12 x2 x3 0 (by decide))) (R : Fin 256) (q : Fin 512) : v (ix2 (n0 := 256) (n1 := 512) R q)
      = ∑ k ∈ Finset.range 1, term (hA c arg3 harg3 arg4 harg4 arg11 x2 x3) x4 (scA arg6 harg6 x5) k R.val q.val := by
  refine first_step hv ?_ ?_ ?_ R q
  · exact cov_block (0 : EReal) arg12.view _ (f := fun a => a) (g := fun b => 256 * _ + b) Nat.zero_add (fun b => rfl)
  · exact read_block (0#8) harg5 x4 (f := fun a => a) (g := fun b => 128 * _ + b) Nat.zero_add (fun b => rfl)
  · exact cov_block (0 : EReal) arg13.view _ (f := fun a => 16 * _ + a) (g := fun b => b) (fun a => rfl) Nat.zero_add

theorem A_step (hv : v = addf u (stepTile (wA arg5 harg5 x4 n hn) (sA c arg6 harg6 arg13 x5 n hn)
      (hkA c arg3 harg3 arg4 harg4 arg11 arg12 x2 x3 n hn)))
    (hu : ∀ (R : Fin 256) (q : Fin 512), u (ix2 (n0 := 256) (n1 := 512) R q)
      = ∑ k ∈ Finset.range n, term (hA c arg3 harg3 arg4 harg4 arg11 x2 x3) x4 (scA arg6 harg6 x5) k R.val q.val)
    (R : Fin 256) (q : Fin 512) : v (ix2 (n0 := 256) (n1 := 512) R q)
      = ∑ k ∈ Finset.range (n + 1), term (hA c arg3 harg3 arg4 harg4 arg11 x2 x3) x4 (scA arg6 harg6 x5) k R.val q.val := by
  refine add_step hv hu ?_ ?_ ?_ R q
  · exact cov_block (0 : EReal) arg12.view _ (f := fun a => a) (g := fun b => 256 * _ + b) Nat.zero_add (fun b => rfl)
  · exact read_block (0#8) harg5 x4 (f := fun a => a) (g := fun b => 128 * _ + b) Nat.zero_add (fun b => rfl)
  · exact cov_block (0 : EReal) arg13.view _ (f := fun a => 16 * _ + a) (g := fun b => b) (fun a => rfl) Nat.zero_add

end

/-- The first point's products. -/
theorem A_acc (R : Fin 256) (q : Fin 512) :
    kernelRun0_A.sl.r_151 c arg3 harg3 arg4 harg4 arg5 harg5 arg6 harg6 arg11 arg12 arg13 x2 x3 x4 x5 (ix2 (n0 := 256) (n1 := 512) R q)
      = ∑ k ∈ Finset.range 20, term (hA c arg3 harg3 arg4 harg4 arg11 x2 x3) x4 (scA arg6 harg6 x5) k R.val q.val := by
  revert R q
  iterate 19
    (apply A_step c arg3 harg3 arg4 harg4 arg5 harg5 arg6 harg6 arg11 arg12 arg13 x2 x3 x4 x5
     case hn => decide
     on_goal 1 => exact rfl)
  apply A_first c arg3 harg3 arg4 harg4 arg5 harg5 arg6 harg6 arg11 arg12 arg13 x2 x3 x4 x5
  exact rfl

end

end Cert.HeadValue

end
-- ==== Proof.AccB.lean ====
/- The tile's products at a middle grid point, read at an index. -/
module

public import proofs.«01_k».proof.Proof.Gen.HeadIdeal.Frame.RunB
public import proofs.«01_k».proof.Proof.Step

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

section

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- A tile's scales as the body reads them. -/
abbrev scB : FVec Ideal S320x512 .f32 := k0_pay362 (F := Ideal) (View.readAt (Elt Ideal) arg6.view
  (Rect.unit (s := S320x512) ![0, 0] S320x512.size inb_S320x512_S320x512_0_0).toLoadRect (harg6.unread x5))

/-- The weights, scales and activations step `n` reads. -/
abbrev wB (n : ℕ) (hn : n < 20) : Vec Ideal S512x128 .i8 := View.readAt (Elt Ideal) arg5.view (Rect.unit (s := S512x2560) ![0, 128 * n] S512x128.size
  (fun a => by match a with | 0 => exact Nat.le_of_ble_eq_true rfl | 1 => show 128 * n + 128 ≤ 2560; omega)).toLoadRect (harg5.unread x4)
abbrev sB (n : ℕ) (hn : n < 20) : Vec Ideal S16x512 .f32 := arg13.view.readCov (Val := Elt Ideal) (kernelRun0_B.sl.HS2_1 c arg6 harg6 x5)
  (Rect.unit (s := S320x512) ![16 * n, 0] S16x512.size
  (fun a => by match a with | 0 => show 16 * n + 16 ≤ 320; omega | 1 => exact Nat.le_of_ble_eq_true rfl)).toLoadRect
abbrev hkB (n : ℕ) (hn : n < 20) : Vec Ideal S256x256 .bf16 := View.readAt (Elt Ideal) arg12.view
  (Rect.unit (s := S256x5120) ![0, 256 * n] S256x256.size
  (fun a => by match a with | 0 => exact Nat.le_of_ble_eq_true rfl | 1 => show 256 * n + 256 ≤ 5120; omega)).toLoadRect (harg12.unread xs1)

section
variable {n : ℕ} (hn : n < 20) {v u : FVec Ideal S256x512 .f32}

theorem B_first (hv : v = stepTile (wB arg5 harg5 x4 0 (by decide)) (sB c arg6 harg6 arg13 x5 0 (by decide))
    (hkB arg12 harg12 xs1 0 (by decide))) (R : Fin 256) (q : Fin 512) : v (ix2 (n0 := 256) (n1 := 512) R q)
      = ∑ k ∈ Finset.range 1, term xs1 x4 (scB arg6 harg6 x5) k R.val q.val := by
  refine first_step hv ?_ ?_ ?_ R q
  · exact read_block (0 : EReal) harg12 xs1 (f := fun a => a) (g := fun b => 256 * _ + b) Nat.zero_add (fun b => rfl)
  · exact read_block (0#8) harg5 x4 (f := fun a => a) (g := fun b => 128 * _ + b) Nat.zero_add (fun b => rfl)
  · exact cov_block (0 : EReal) arg13.view _ (f := fun a => 16 * _ + a) (g := fun b => b) (fun a => rfl) Nat.zero_add

theorem B_step (hv : v = addf u (stepTile (wB arg5 harg5 x4 n hn) (sB c arg6 harg6 arg13 x5 n hn)
      (hkB arg12 harg12 xs1 n hn)))
    (hu : ∀ (R : Fin 256) (q : Fin 512), u (ix2 (n0 := 256) (n1 := 512) R q)
      = ∑ k ∈ Finset.range n, term xs1 x4 (scB arg6 harg6 x5) k R.val q.val)
    (R : Fin 256) (q : Fin 512) : v (ix2 (n0 := 256) (n1 := 512) R q)
      = ∑ k ∈ Finset.range (n + 1), term xs1 x4 (scB arg6 harg6 x5) k R.val q.val := by
  refine add_step hv hu ?_ ?_ ?_ R q
  · exact read_block (0 : EReal) harg12 xs1 (f := fun a => a) (g := fun b => 256 * _ + b) Nat.zero_add (fun b => rfl)
  · exact read_block (0#8) harg5 x4 (f := fun a => a) (g := fun b => 128 * _ + b) Nat.zero_add (fun b => rfl)
  · exact cov_block (0 : EReal) arg13.view _ (f := fun a => 16 * _ + a) (g := fun b => b) (fun a => rfl) Nat.zero_add

end

/-- The tile's products. -/
theorem B_acc (R : Fin 256) (q : Fin 512) :
    kernelRun0_B.sl.r_73 c arg5 harg5 arg6 harg6 arg12 harg12 arg13 x4 x5 xs1 (ix2 (n0 := 256) (n1 := 512) R q)
      = ∑ k ∈ Finset.range 20, term xs1 x4 (scB arg6 harg6 x5) k R.val q.val := by
  revert R q
  iterate 19
    (apply B_step c arg5 harg5 arg6 harg6 arg12 harg12 arg13 x4 x5 xs1
     case hn => decide
     on_goal 1 => exact rfl)
  apply B_first c arg5 harg5 arg6 harg6 arg12 harg12 arg13 x4 x5 xs1
  exact rfl

end

end Cert.HeadValue

end
-- ==== Proof.AccC.lean ====
/- The tile's products at the last grid point, read at an index. -/
module

public import proofs.«01_k».proof.Proof.Gen.HeadIdeal.Frame.RunC
public import proofs.«01_k».proof.Proof.Step

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

section

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- A tile's scales as the body reads them. -/
abbrev scC : FVec Ideal S320x512 .f32 := k0_pay362 (F := Ideal) (View.readAt (Elt Ideal) arg6.view
  (Rect.unit (s := S320x512) ![0, 0] S320x512.size inb_S320x512_S320x512_0_0).toLoadRect (harg6.unread x5))

/-- The weights, scales and activations step `n` reads. -/
abbrev wC (n : ℕ) (hn : n < 20) : Vec Ideal S512x128 .i8 := View.readAt (Elt Ideal) arg5.view (Rect.unit (s := S512x2560) ![0, 128 * n] S512x128.size
  (fun a => by match a with | 0 => exact Nat.le_of_ble_eq_true rfl | 1 => show 128 * n + 128 ≤ 2560; omega)).toLoadRect (harg5.unread x4)
abbrev sC (n : ℕ) (hn : n < 20) : Vec Ideal S16x512 .f32 := arg13.view.readCov (Val := Elt Ideal) (kernelRun0_C.sl.HS2_1 c arg6 harg6 x5)
  (Rect.unit (s := S320x512) ![16 * n, 0] S16x512.size
  (fun a => by match a with | 0 => show 16 * n + 16 ≤ 320; omega | 1 => exact Nat.le_of_ble_eq_true rfl)).toLoadRect
abbrev hkC (n : ℕ) (hn : n < 20) : Vec Ideal S256x256 .bf16 := View.readAt (Elt Ideal) arg12.view
  (Rect.unit (s := S256x5120) ![0, 256 * n] S256x256.size
  (fun a => by match a with | 0 => exact Nat.le_of_ble_eq_true rfl | 1 => show 256 * n + 256 ≤ 5120; omega)).toLoadRect (harg12.unread xs1)

section
variable {n : ℕ} (hn : n < 20) {v u : FVec Ideal S256x512 .f32}

theorem C_first (hv : v = stepTile (wC arg5 harg5 x4 0 (by decide)) (sC c arg6 harg6 arg13 x5 0 (by decide))
    (hkC arg12 harg12 xs1 0 (by decide))) (R : Fin 256) (q : Fin 512) : v (ix2 (n0 := 256) (n1 := 512) R q)
      = ∑ k ∈ Finset.range 1, term xs1 x4 (scC arg6 harg6 x5) k R.val q.val := by
  refine first_step hv ?_ ?_ ?_ R q
  · exact read_block (0 : EReal) harg12 xs1 (f := fun a => a) (g := fun b => 256 * _ + b) Nat.zero_add (fun b => rfl)
  · exact read_block (0#8) harg5 x4 (f := fun a => a) (g := fun b => 128 * _ + b) Nat.zero_add (fun b => rfl)
  · exact cov_block (0 : EReal) arg13.view _ (f := fun a => 16 * _ + a) (g := fun b => b) (fun a => rfl) Nat.zero_add

theorem C_step (hv : v = addf u (stepTile (wC arg5 harg5 x4 n hn) (sC c arg6 harg6 arg13 x5 n hn)
      (hkC arg12 harg12 xs1 n hn)))
    (hu : ∀ (R : Fin 256) (q : Fin 512), u (ix2 (n0 := 256) (n1 := 512) R q)
      = ∑ k ∈ Finset.range n, term xs1 x4 (scC arg6 harg6 x5) k R.val q.val)
    (R : Fin 256) (q : Fin 512) : v (ix2 (n0 := 256) (n1 := 512) R q)
      = ∑ k ∈ Finset.range (n + 1), term xs1 x4 (scC arg6 harg6 x5) k R.val q.val := by
  refine add_step hv hu ?_ ?_ ?_ R q
  · exact read_block (0 : EReal) harg12 xs1 (f := fun a => a) (g := fun b => 256 * _ + b) Nat.zero_add (fun b => rfl)
  · exact read_block (0#8) harg5 x4 (f := fun a => a) (g := fun b => 128 * _ + b) Nat.zero_add (fun b => rfl)
  · exact cov_block (0 : EReal) arg13.view _ (f := fun a => 16 * _ + a) (g := fun b => b) (fun a => rfl) Nat.zero_add

end

/-- The tile's products. -/
theorem C_acc (R : Fin 256) (q : Fin 512) :
    kernelRun0_C.sl.r_73 c arg5 harg5 arg6 harg6 arg12 harg12 arg13 x4 x5 xs1 (ix2 (n0 := 256) (n1 := 512) R q)
      = ∑ k ∈ Finset.range 20, term xs1 x4 (scC arg6 harg6 x5) k R.val q.val := by
  revert R q
  iterate 19
    (apply C_step c arg5 harg5 arg6 harg6 arg12 harg12 arg13 x4 x5 xs1
     case hn => decide
     on_goal 1 => exact rfl)
  apply C_first c arg5 harg5 arg6 harg6 arg12 harg12 arg13 x4 x5 xs1
  exact rfl

end

end Cert.HeadValue

end
-- ==== Proof.Block.lean ====
/- One row group of the `head` kernel: the tile's scores as a function of whole arrays, and, at any one row group of
   8 rows, that the vector operations the kernel stores there are the blocks of that function. Every group uses the
   same lemmas. -/
module

public import proofs.«01_k».proof.Proof.Gen.HeadIdeal.Skeleton
public import Idealize.ShloMosaic.Lib.ValueIdx
public import Idealize.ShloMosaic.Lib.Pipeline.Value

@[expose] public section

set_option maxRecDepth 16384

noncomputable section

namespace Cert.HeadValue

open Cert.HeadIdeal Idealize.ShloMosaic Idealize.ShloMosaic.ValueIdx

/-- The lane a column of a tile falls in. -/
def laneIx (y : S256x512.Idx) : S256x128.Idx := ix2 (n0 := 256) (n1 := 128) (y 0) ⟨(y 1).val % 128, Nat.mod_lt _ (by norm_num)⟩

/-- The tile's scores: the products, each scaled by its row and lane's factor. -/
def ZNew (acc : FVec Ideal S256x512 .f32) (cc : FVec Ideal S256x128 .f32) (y : S256x512.Idx) : EReal := acc y * cc (laneIx y)

section Group

variable {acc : FVec Ideal S256x512 .f32} {cc : FVec Ideal S256x128 .f32} {cv : FVec Ideal S8x128 .f32}
variable {o : ℕ} {inb : ∀ a, (![o, 0] : Fin 2 → ℕ) a + S8x128.size a ≤ S256x128.size a}

/-- A stored group of scores is the group of `ZNew`. -/
theorem z_block {q : ℕ} {h : S256x512.Slices ![o, q] S8x128}
    {inb' : ∀ a, (![o, q] : Fin 2 → ℕ) a + S8x128.size a ≤ S256x512.size a} (hq : q % 128 = 0)
    (hc : ∀ x, cv x = cc ((Rect.unit (s := S256x128) ![o, 0] S8x128.size inb).emb x)) (x : S8x128.Idx) :
    mulf (extractStridedSlice S8x128 ![o, q] acc h) cv x = ZNew acc cc ((Rect.unit (s := S256x512) ![o, q] S8x128.size inb').emb x) := by
  show extractStridedSlice S8x128 ![o, q] acc h x * cv x = _
  rw [hc x, extractStridedSlice_apply _ _ _ x ((Rect.unit (s := S256x512) ![o, q] S8x128.size inb').emb x) fun a => by
    rw [Rect.emb_apply]; exact congrArg (_ + ·) (Nat.one_mul _)]
  unfold ZNew
  refine congrArg (acc _ * cc ·) (funext fun a => Fin.ext ?_)
  have hx := (x 1).isLt
  change (x 1).val < 128 at hx
  match a with
  | 0 => rfl
  | 1 => show 0 + 1 * (x 1).val = (q + 1 * (x 1).val) % 128; omega

/-- A load of a group of 8 rows of a buffer holding `X` reads `X` there. -/
theorem load8 {sp : Space} {e : EltTy} {M : Memref sig .tc sp S256x128 e} (hM : M.IsWhole) (X : Vec Ideal S256x128 e) {o : ℕ}
    {inb : ∀ a, (![o, 0] : Fin 2 → ℕ) a + S8x128.size a ≤ S256x128.size a} (x : S8x128.Idx) :
    M.view.readAt (Elt Ideal) (Rect.unit (s := S256x128) ![o, 0] S8x128.size inb).toLoadRect (hM.unread X) x
      = X ((Rect.unit (s := S256x128) ![o, 0] S8x128.size inb).emb x) := by
  rw [View.readAt_eq_ld, hM.read_unread]; rfl

/-- The same where the buffer was stored piece by piece. -/
theorem cov8 {sp : Space} {e : EltTy} (v : View sig .tc sp S256x128 e) (L : List (View.Piece (Elt Ideal) S256x128 e)) {o : ℕ}
    {inb : ∀ a, (![o, 0] : Fin 2 → ℕ) a + S8x128.size a ≤ S256x128.size a} (x : S8x128.Idx) :
    v.readCov L (Rect.unit (s := S256x128) ![o, 0] S8x128.size inb).toLoadRect x
      = View.canon L ((Rect.unit (s := S256x128) ![o, 0] S8x128.size inb).emb x) := by
  rw [View.readCov_eq_canon']; rfl

/-- A stored group of scores, its factors loaded from a buffer holding `cc`. -/
theorem z_load {sp : Space} {M : Memref sig .tc sp S256x128 .f32} (hM : M.IsWhole) {o q : ℕ} {V : FVec Ideal S8x128 .f32}
    {inb' : ∀ a, (![o, q] : Fin 2 → ℕ) a + S8x128.size a ≤ S256x512.size a} (h : S256x512.Slices ![o, q] S8x128)
    (inb : ∀ a, (![o, 0] : Fin 2 → ℕ) a + S8x128.size a ≤ S256x128.size a) (hq : q % 128 = 0)
    (hV : V = mulf (extractStridedSlice S8x128 ![o, q] acc h)
      (M.view.readAt (Elt Ideal) (Rect.unit (s := S256x128) ![o, 0] S8x128.size inb).toLoadRect (hM.unread cc))) (x : S8x128.Idx) :
    V x = ZNew acc cc ((Rect.unit (s := S256x512) ![o, q] S8x128.size inb').emb x) := by
  subst hV
  exact z_block hq (load8 hM cc) x

/-- The same where the factors were stored piece by piece. -/
theorem z_cov {sp : Space} (v : View sig .tc sp S256x128 .f32) (L : List (View.Piece (Elt Ideal) S256x128 .f32)) {o q : ℕ}
    {V : FVec Ideal S8x128 .f32} {inb' : ∀ a, (![o, q] : Fin 2 → ℕ) a + S8x128.size a ≤ S256x512.size a}
    (h : S256x512.Slices ![o, q] S8x128) (inb : ∀ a, (![o, 0] : Fin 2 → ℕ) a + S8x128.size a ≤ S256x128.size a) (hq : q % 128 = 0)
    (hV : V = mulf (extractStridedSlice S8x128 ![o, q] acc h)
      (v.readCov L (Rect.unit (s := S256x128) ![o, 0] S8x128.size inb).toLoadRect)) (x : S8x128.Idx) :
    V x = ZNew acc (View.canon L) ((Rect.unit (s := S256x512) ![o, q] S8x128.size inb').emb x) := by
  subst hV
  exact z_block hq (cov8 v L) x

end Group

end Cert.HeadValue

end
-- ==== Proof.PointA.lean ====
/- The tile of scores `head` leaves at the first grid point, from the factors it stores there. -/
module

public import proofs.«01_k».proof.Proof.Gen.HeadIdeal.Frame
public import proofs.«01_k».proof.Proof.Block
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32)

/-- The tile's products, as the run names them. -/
abbrev accA : FVec Ideal S256x512 .f32 :=
  kernelRun0_A.sl.r_151 c arg3 harg3 arg4 harg4 arg5 harg5 arg6 harg6 arg11 arg12 arg13 x2 x3 x4 x5

/-- The factors the first point stores, piece by piece. -/
abbrev cA : FVec Ideal S256x128 .f32 := View.canon (kernelRun0_A.sl.HS7_8 (F := Ideal) c arg1 harg1 arg2 harg2 x0 x1)

/-- The scores of the tile. -/
theorem A_z :
    out0_A_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = ZNew (accA c arg3 harg3 arg4 harg4 arg5 harg5 arg6 harg6 arg11 arg12 arg13 x2 x3 x4 x5) (cA c arg1 harg1 arg2 harg2 x0 x1) := by
  funext y
  unfold out0_A_7
  rw [View.read_writes_eq_canon _ _ _ (cover0_A_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)]
  refine View.canon_apply_of_pieces _ _ ?_ y (cover0_A_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 y)
  repeat' (first | exact fun _ h => absurd h List.not_mem_nil | refine List.forall_mem_cons.mpr ⟨?_, ?_⟩)
  all_goals (intro x; dsimp only; refine z_cov arg18.view (kernelRun0_A.sl.HS7_8 (F := Ideal) c arg1 harg1 arg2 harg2 x0 x1) ?_ ?_ ?_ ?_ x; decide; decide; rfl; exact rfl)

end Cert.HeadValue

end
-- ==== Proof.PointB.lean ====
/- The tile of scores `head` leaves at a middle grid point, from the factors the point before left. -/
module

public import proofs.«01_k».proof.Proof.Gen.HeadIdeal.Frame
public import proofs.«01_k».proof.Proof.Block
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The tile's products, as the run names them. -/
abbrev accB : FVec Ideal S256x512 .f32 := kernelRun0_B.sl.r_73 c arg5 harg5 arg6 harg6 arg12 harg12 arg13 x4 x5 xs1

/-- The scores of the tile. -/
theorem B_z :
    out0_B_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = ZNew (accB c arg5 harg5 arg6 harg6 arg12 harg12 arg13 x4 x5 xs1) xs7 := by
  funext y
  unfold out0_B_7
  rw [View.read_writes_eq_canon _ _ _ (cover0_B_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (cover0_B_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine z_load harg18 ?_ ?_ ?_ ?_ x; decide; decide; rfl; exact rfl)

end Cert.HeadValue

end
-- ==== Proof.PointC.lean ====
/- The tile of scores `head` leaves at the last grid point, from the factors the point before left. -/
module

public import proofs.«01_k».proof.Proof.Gen.HeadIdeal.Frame
public import proofs.«01_k».proof.Proof.Block
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The tile's products, as the run names them. -/
abbrev accC : FVec Ideal S256x512 .f32 := kernelRun0_C.sl.r_73 c arg5 harg5 arg6 harg6 arg12 harg12 arg13 x4 x5 xs1

/-- The scores of the tile. -/
theorem C_z :
    out0_C_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = ZNew (accC c arg5 harg5 arg6 harg6 arg12 harg12 arg13 x4 x5 xs1) xs7 := by
  funext y
  unfold out0_C_7
  rw [View.read_writes_eq_canon _ _ _ (cover0_C_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (cover0_C_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine z_load harg18 ?_ ?_ ?_ ?_ x; decide; decide; rfl; exact rfl)

end Cert.HeadValue

end
-- ==== Proof.Norm.lean ====
/- The normalized activations: the vector operations that compute 8 rows of them, read at an index, and the scratch the
   first grid point stores row by row. -/
module

public import proofs.«01_k».proof.Proof.Gen.HeadIdeal.Frame.RunA
public import Idealize.ShloMosaic.Lib.ValueIdx
public import Idealize.ShloMosaic.Lib.Pipeline.Value
public import Idealize.ShloMosaic.PureOps.Ideal.Laws

@[expose] public section

set_option maxRecDepth 16384

noncomputable section

namespace Cert.HeadValue

open Cert.HeadIdeal Cert.HeadIdeal.Gen Idealize.ShloMosaic Idealize.ShloMosaic.TcCoe Idealize.ShloMosaic.ValueIdx Idealize.SL.Sem

/-- One normalized activation: an entry of a row over the root of the row's mean square, times its weight. -/
def normAt (xr : Fin 5120 → EReal) (w : EReal) (n : Fin 5120) : EReal :=
  Ideal.div (xr n) (Ideal.sqrt (Ideal.div (∑ k, xr k * xr k) (Ideal.ofBits .f32 0x45A00000#32) + Ideal.ofBits .f32 0x3727C5AC#32)) * w

/-- The activations by row `32 * s + b` of position `s` of batch `b`. -/
def HN (X : FVec Ideal S32x8x5120 .bf16) (W : FVec Ideal S1x5120 .f32) (y : S256x5120.Idx) : EReal :=
  normAt (fun k => X (ix3 (n0 := 32) (n1 := 8) (n2 := 5120) ⟨(y 0).val % 32, Nat.mod_lt _ (by norm_num)⟩
      ⟨(y 0).val / 32, by have h : (y 0).val < 256 := (y 0).isLt; omega⟩ k))
    (W (ix2 (n0 := 1) (n1 := 5120) 0 (y 1))) (y 1)

/-- The 8 rows the body computes for one batch, read at an index. -/
theorem rows_at (xv : FVec Ideal S1x8x5120 .bf16) (wv : FVec Ideal S1x5120 .f32) (s : Fin 8) (n : Fin 5120) :
    k0_pay1 (F := Ideal) xv wv (ix2 (n0 := 8) (n1 := 5120) s n)
      = normAt (fun k => xv (ix3 (n0 := 1) (n1 := 8) (n2 := 5120) 0 s k)) (wv (ix2 (n0 := 1) (n1 := 5120) 0 n)) n := by
  have hx : ∀ k : Fin 5120, shapeCast S8x5120 xv shapeCasts_S1x8x5120_S8x5120 (ix2 (n0 := 8) (n1 := 5120) s k)
      = xv (ix3 (n0 := 1) (n1 := 8) (n2 := 5120) 0 s k) := fun k =>
    shapeCast_apply _ _ _ _ (by rw [Shape.rowMajor_val_three, Shape.rowMajor_val_two]; show (0 * 8 + s.val) * 5120 + k.val = s.val * 5120 + k.val; omega)
  unfold k0_pay1 normAt
  dsimp only
  refine congrArg₂ (· * ·) (congrArg₂ Ideal.div (hx n) ?_) ?_
  · rw [broadcastTo_apply _ _ (ix2 (n0 := 8) (n1 := 5120) s n) (ix2 (n0 := 8) (n1 := 1) s 0) (fun a => by match a with | 0 => rfl | 1 => rfl)]
    refine congrArg (fun z => Ideal.sqrt (Ideal.div z (Ideal.ofBits .f32 0x45A00000#32) + Ideal.ofBits .f32 0x3727C5AC#32)) ?_
    rw [shapeCast_apply _ _ (ix2 (n0 := 8) (n1 := 1) s 0) (ix1 (n := 8) s) (by
      rw [Shape.rowMajor_val_two, Shape.rowMajor_val_one]; show s.val = s.val * 1 + 0; omega)]
    refine (Ideal.multiReduction_add_single (s := S8x5120) (t := S8) (a := 1) _ _ _ _ _ _).trans ?_
    refine Finset.sum_congr rfl fun k _ => ?_
    have hk : reduces_S8x5120_S8.lift (ix1 (n := 8) s) k = ix2 (n0 := 8) (n1 := 5120) s k := by
      funext a; match a with | 0 => rfl | 1 => rfl
    rw [hk]
    exact congrArg₂ (· * ·) (hx k) (hx k)
  · rw [broadcastTo_apply _ _ (ix2 (n0 := 8) (n1 := 5120) s n) (ix2 (n0 := 1) (n1 := 5120) 0 n) (fun a => by match a with | 0 => rfl | 1 => rfl),
      shapeCast_self]

section Piece

variable {sp3 sp4 : Space} {M3 : Memref sig .tc sp3 S32x8x5120 .bf16} (h3 : M3.IsWhole) {M4 : Memref sig .tc sp4 S1x5120 .f32}
variable (h4 : M4.IsWhole) (X : Vec Ideal S32x8x5120 .bf16) (W : Vec Ideal S1x5120 .f32)

/-- The row the body stores at row `o`: row `o / 32` of the 8 of batch `o % 32`. -/
theorem h_piece {o : ℕ} {V : FVec Ideal S1x5120 .f32} {inb' : ∀ a, (![o, 0] : Fin 2 → ℕ) a + S1x5120.size a ≤ S256x5120.size a}
    (inb : ∀ a, (![o % 32, 0, 0] : Fin 3 → ℕ) a + S1x8x5120.size a ≤ S32x8x5120.size a) (hsl : S8x5120.Slices ![o / 32, 0] S1x5120)
    (hV : V = shapeCast S1x5120 (extractStridedSlice S1x5120 ![o / 32, 0] (k0_pay1 (F := Ideal)
      (M3.view.readAt (Elt Ideal) (Rect.unit (s := S32x8x5120) ![o % 32, 0, 0] S1x8x5120.size inb).toLoadRect (h3.unread X))
      (M4.view.readAt (Elt Ideal) (Rect.unit (s := S1x5120) ![0, 0] S1x5120.size inb_S1x5120_S1x5120_0_0).toLoadRect (h4.unread W))) hsl)
      shapeCasts_S1x5120_S1x5120) (x : S1x5120.Idx) :
    V x = HN X W ((Rect.unit (s := S256x5120) ![o, 0] S1x5120.size inb').emb x) := by
  have ho : o + 1 ≤ 256 := inb' 0
  have hx0 : (x 0).val < 1 := (x 0).isLt
  rw [hV, shapeCast_self]
  refine (extractStridedSlice_apply _ _ _ x (ix2 (n0 := 8) (n1 := 5120) ⟨o / 32, by omega⟩ (x 1)) (fun a => by
    match a with
    | 0 => show o / 32 = o / 32 + (x 0).val; omega
    | 1 => show (x 1).val = 0 + (x 1).val; omega)).trans ((rows_at _ _ ⟨o / 32, by omega⟩ (x 1)).trans ?_)
  have e1 : ((Rect.unit (s := S256x5120) ![o, 0] S1x5120.size inb').emb x) 1 = x 1 := Fin.ext (by show 0 + 1 * (x 1).val = _; omega)
  have e0 : (((Rect.unit (s := S256x5120) ![o, 0] S1x5120.size inb').emb x) 0).val = o := by show o + 1 * (x 0).val = _; omega
  unfold HN
  rw [e1]
  refine congrArg₂ (normAt · · (x 1)) (funext fun k => ?_) ?_
  · rw [View.readAt_eq_ld, h3.read_unread]
    refine congrArg X (funext fun a => Fin.ext ?_)
    match a with
    | 0 => show o % 32 + 1 * 0 = _; simp only [e0]; rfl
    | 1 => show 0 + 1 * (o / 32) = _; simp only [e0]; show _ = o / 32; omega
    | 2 => show 0 + 1 * k.val = k.val; omega
  · rw [View.readAt_eq_ld, h4.read_unread]
    refine congrArg W (funext fun a => Fin.ext ?_)
    match a with
    | 0 => rfl
    | 1 => show 0 + 1 * (x 1).val = (x 1).val; omega

end Piece

end Cert.HeadValue

end
-- ==== Proof.Coef.lean ====
/- The row factors: the vector operations that compute 32 of them, read at an index. -/
module

public import proofs.«01_k».proof.Proof.Gen.HeadIdeal.Frame.RunA
public import Idealize.ShloMosaic.Lib.ValueIdx
public import Idealize.ShloMosaic.Lib.Pipeline.Value

@[expose] public section

set_option maxRecDepth 16384

noncomputable section

namespace Cert.HeadValue

open Cert.HeadIdeal Cert.HeadIdeal.Gen Idealize.ShloMosaic Idealize.ShloMosaic.TcCoe Idealize.ShloMosaic.ValueIdx Idealize.SL.Sem

/-- The factor of a row of batch `b`: the global scale over the temperature, in units of the binary logarithm. -/
def CN (G : FVec Ideal S1 .f32) (T : FVec Ideal S1x32 .f32) (y : S256x128.Idx) : EReal :=
  Ideal.div (G (ix1 (n := 1) 0)) (T (ix2 (n0 := 1) (n1 := 32) 0 ⟨(y 0).val % 32, Nat.mod_lt _ (by norm_num)⟩))
    * Ideal.ofBits .f32 0x3FB8AA3B#32

/-- The temperatures spread over the lanes, read at an index. -/
theorem temps_at (T : FVec Ideal S1x32 .f32) (b : Fin 32) (l : Fin 128) :
    k0_pay341 (F := Ideal) T (ix2 (n0 := 32) (n1 := 128) b l) = T (ix2 (n0 := 1) (n1 := 32) 0 b) := by
  unfold k0_pay341
  dsimp only
  refine (extractStridedSlice_apply _ _ _ _ (ix2 (n0 := 128) (n1 := 128) ⟨b.val, by omega⟩ l) (fun a => by
    match a with
    | 0 => show b.val = 0 + b.val; omega
    | 1 => show l.val = 0 + l.val; omega)).trans ?_
  refine (transpose_apply _ _ _ _ (ix2 (n0 := 128) (n1 := 128) l ⟨b.val, by omega⟩) (fun a => by
    match a with
    | 0 => rfl
    | 1 => rfl)).trans ?_
  refine (broadcastTo_apply _ _ _ (ix2 (n0 := 1) (n1 := 128) 0 ⟨b.val, by omega⟩) (fun a => by
    match a with
    | 0 => rfl
    | 1 => rfl)).trans ?_
  rw [shapeCast_self, shapeCast_self]
  exact concatenate_pair_apply_left (t := S1x128) (s₁ := S1x32) (s₂ := S1x96) 1 T _ _ _ rfl (ix2 (n0 := 1) (n1 := 32) 0 b)
    (fun a => by match a with | 0 => rfl | 1 => rfl)

variable {sp1 sp2 : Space} {M1 : Memref sig .tc sp1 S1 .f32} (h1 : M1.IsWhole) {M2 : Memref sig .tc sp2 S1x32 .f32}
variable (h2 : M2.IsWhole) (G : Vec Ideal S1 .f32) (T : Vec Ideal S1x32 .f32)

/-- The 32 rows of factors the body stores at row `o`. -/
theorem c_piece {o : ℕ} {i : S1.Idx} {V : FVec Ideal S32x128 .f32} {inb' : ∀ a, (![o, 0] : Fin 2 → ℕ) a + S32x128.size a ≤ S256x128.size a}
    (ho : o % 32 = 0)
    (hV : V = shapeCast S32x128 (k0_pay343 (F := Ideal) (k0_pay341 (F := Ideal)
      (M2.view.readAt (Elt Ideal) (Rect.unit (s := S1x32) ![0, 0] S1x32.size inb_S1x32_S1x32_0_0).toLoadRect (h2.unread T)))
      (k0_pay342 (F := Ideal) (M1.view.readAt (Elt Ideal) (Rect.unit (s := S1) ![0] S1.size inb_S1_S1_0).toLoadRect (h1.unread G)
        i))) shapeCasts_S32x128_S32x128) (x : S32x128.Idx) :
    V x = CN G T ((Rect.unit (s := S256x128) ![o, 0] S32x128.size inb').emb x) := by
  have hx0 : (x 0).val < 32 := (x 0).isLt
  have e0 : (((Rect.unit (s := S256x128) ![o, 0] S32x128.size inb').emb x) 0).val = o + (x 0).val := by show o + 1 * (x 0).val = _; omega
  rw [hV, shapeCast_self, eq_ix2 x]
  refine congrArg₂ (fun a b => Ideal.div a b * Ideal.ofBits .f32 0x3FB8AA3B#32) ?_ ?_
  · show M1.view.readAt (Elt Ideal) _ _ _ = _
    rw [View.readAt_eq_ld, h1.read_unread]
    exact congrArg G (funext fun a => by match a with | 0 => exact Fin.ext (by have := (i 0).isLt; show 0 + 1 * (i 0).val = 0; change (i 0).val < 1 at this; omega))
  · refine (temps_at _ (x 0) (x 1)).trans ?_
    rw [View.readAt_eq_ld, h2.read_unread]
    refine congrArg T (funext fun a => Fin.ext ?_)
    match a with
    | 0 => rfl
    | 1 => show 0 + 1 * (x 0).val = (o + 1 * (x 0).val) % 32; omega

end Cert.HeadValue

end
-- ==== Proof.NormA.lean ====
/- The normalized activations the first grid point leaves in its scratch. -/
module

public import proofs.«01_k».proof.Proof.Gen.HeadIdeal.Frame
public import proofs.«01_k».proof.Proof.Norm
public import proofs.«01_k».proof.Proof.Coef
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32)

/-- The rows the first point stores cover their scratch. -/
theorem hf_cover (y : S256x5120.Idx) : ∃ p ∈ kernelRun0_A.sl.HS0_256 (F := Ideal) c arg3 harg3 arg4 harg4 x2 x3, y ∈ p.1.set :=
  View.cover_of_tiledL (kernelRun0_A.sl.HS0_256 (F := Ideal) c arg3 harg3 arg4 harg4 x2 x3) S1x5120.size (by sl_kernel_rfl) y

/-- Those rows are the normalized activations. -/
theorem hf_eq : View.canon (kernelRun0_A.sl.HS0_256 (F := Ideal) c arg3 harg3 arg4 harg4 x2 x3) = HN x2 x3 := by
  funext y
  refine View.canon_apply_of_pieces _ _ ?_ y (hf_cover c arg3 harg3 arg4 harg4 x2 x3 y)
  repeat' (first | exact fun _ h => absurd h List.not_mem_nil | refine List.forall_mem_cons.mpr ⟨?_, ?_⟩)
  all_goals (intro x; dsimp only; refine h_piece harg3 harg4 x2 x3 ?_ ?_ ?_ x; decide; decide; exact rfl)

/-- The factors the first point stores. -/
theorem c_eq : View.canon (kernelRun0_A.sl.HS7_8 (F := Ideal) c arg1 harg1 arg2 harg2 x0 x1) = CN x0 x1 := by
  funext y
  refine View.canon_apply_of_pieces _ _ ?_ y
    (View.cover_of_tiledL (kernelRun0_A.sl.HS7_8 (F := Ideal) c arg1 harg1 arg2 harg2 x0 x1) S32x128.size (by sl_kernel_rfl) y)
  repeat' (first | exact fun _ h => absurd h List.not_mem_nil | refine List.forall_mem_cons.mpr ⟨?_, ?_⟩)
  all_goals (intro x; dsimp only; refine c_piece (i := Shape.Idx.first (s := S1) (by decide)) harg1 harg2 x0 x1 ?_ ?_ x; rfl; exact rfl)

/-- The activations the first point reads back and rounds. -/
theorem h_read : k0_pay337 (F := Ideal) (kernelRun0_A.sl.v4956 (F := Ideal) c arg3 harg3 arg4 harg4 arg11 x2 x3) = HN x2 x3 := by
  refine Eq.trans (b := kernelRun0_A.sl.v4956 (F := Ideal) c arg3 harg3 arg4 harg4 arg11 x2 x3) ?_ ?_
  · unfold k0_pay337
    simp only [shapeCast_self]
    rfl
  · rw [← hf_eq c arg3 harg3 arg4 harg4 x2 x3]
    unfold kernelRun0_A.sl.v4956
    rw [View.readCov_eq_canon']
    funext y
    exact congrArg _ (funext fun a => Fin.ext (by match a with | 0 => show 0 + 1 * (y 0).val = _; omega | 1 => show 0 + 1 * (y 1).val = _; omega))

/-- What the first point leaves in the activations' scratch. -/
theorem A_h :
    sout0_A_1
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = HN x2 x3 := by
  unfold sout0_A_1
  rw [View.read_writes_eq_canon _ _ _ (scover0_A_1
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)]
  exact (View.canon_unit_zero (by funext a; match a with | 0 => rfl | 1 => rfl) _ _).trans (h_read c arg3 harg3 arg4 harg4 arg11 x2 x3)

/-- What it leaves in the factors' scratch. -/
theorem A_c :
    sout0_A_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = CN x0 x1 := by
  unfold sout0_A_7
  rw [View.read_writes_eq_canon _ _ _ (scover0_A_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)]
  exact c_eq c arg1 harg1 arg2 harg2 x0 x1

end Cert.HeadValue

end
-- ==== Proof.Points.lean ====
/- What each of the `head` kernel's grid points leaves in its tile of scores, and in the scratch it carries. -/
module

public import proofs.«01_k».proof.Proof.AccA
public import proofs.«01_k».proof.Proof.AccB
public import proofs.«01_k».proof.Proof.AccC
public import proofs.«01_k».proof.Proof.PointA
public import proofs.«01_k».proof.Proof.PointB
public import proofs.«01_k».proof.Proof.PointC
public import proofs.«01_k».proof.Proof.NormA

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

/-- A tile of scores: activations against a tile of weights and scales, each row scaled by its factor. -/
def ZT (H : FVec Ideal S256x5120 .bf16) (W : Vec Ideal S512x2560 .i8) (S : Vec Ideal S320x512 .f32) (C : FVec Ideal S256x128 .f32)
    (y : S256x512.Idx) : EReal := (∑ k ∈ Finset.range 20, term H W S k (y 0).val (y 1).val) * C (laneIx y)

/-- A tile's scales, read whole and cast, are the scales. -/
theorem scales_whole {arg6 : Memref sig .tc .vmem S320x512 .fp8e4m3} (harg6 : arg6.IsWhole) (x5 : Vec Ideal S320x512 .fp8e4m3) :
    k0_pay362 (F := Ideal) (View.readAt (Elt Ideal) arg6.view
      (Rect.unit (s := S320x512) ![0, 0] S320x512.size inb_S320x512_S320x512_0_0).toLoadRect (harg6.unread x5)) = x5 := by
  funext y
  rw [scales_eq, View.readAt_eq_ld, harg6.read_unread]
  exact congrArg x5 (funext fun a => Fin.ext (by
    match a with
    | 0 => show 0 + 1 * (y 0).val = _; omega
    | 1 => show 0 + 1 * (y 1).val = _; omega))

/-- Scores made of a sum over the steps are a tile of `ZT`. -/
theorem ZNew_eq {acc : FVec Ideal S256x512 .f32} {H : FVec Ideal S256x5120 .bf16} {W : Vec Ideal S512x2560 .i8} {S S' : Vec Ideal S320x512 .f32}
    {C C' : FVec Ideal S256x128 .f32} (hS : S' = S) (hC : C' = C)
    (ha : ∀ (R : Fin 256) (q : Fin 512), acc (ix2 (n0 := 256) (n1 := 512) R q) = ∑ k ∈ Finset.range 20, term H W S' k R.val q.val) :
    ZNew acc C' = ZT H W S C := by
  subst hS hC
  funext y
  unfold ZNew ZT
  refine congrArg (· * C' (laneIx y)) ?_
  rw [← ha (y 0) (y 1)]
  exact congrArg acc (eq_ix2 y)

section

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32)

/-- The activations the first point multiplies are those it stores. -/
theorem hA_eq : hA c arg3 harg3 arg4 harg4 arg11 x2 x3 = HN x2 x3 := h_read c arg3 harg3 arg4 harg4 arg11 x2 x3

/-- The tile of scores. -/
theorem A_out :
    out0_A_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = ZT (HN x2 x3) x4 x5 (CN x0 x1) :=
  (A_z
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6).trans (ZNew_eq (scales_whole harg6 x5) (c_eq c arg1 harg1 arg2 harg2 x0 x1) (fun R q => by rw [← hA_eq c arg3 harg3 arg4 harg4 arg11 x2 x3]; exact A_acc c arg3 harg3 arg4 harg4 arg5 harg5 arg6 harg6 arg11 arg12 arg13 x2 x3 x4 x5 R q))

end

section

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The tile of scores. -/
theorem B_out :
    out0_B_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = ZT xs1 x4 x5 xs7 :=
  (B_z
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7).trans (ZNew_eq (scales_whole harg6 x5) rfl (B_acc c arg5 harg5 arg6 harg6 arg12 harg12 arg13 x4 x5 xs1))

end

section

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The tile of scores. -/
theorem C_out :
    out0_C_7
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = ZT xs1 x4 x5 xs7 :=
  (C_z
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7).trans (ZNew_eq (scales_whole harg6 x5) rfl (C_acc c arg5 harg5 arg6 harg6 arg12 harg12 arg13 x4 x5 xs1))

end

end Cert.HeadValue

end
-- ==== Proof.Sweep.lean ====
/- The `head` kernel's sweep over its grid: the scratch it carries, and the tile of scores each point leaves. -/
module

public import proofs.«01_k».proof.Proof.Points
public import proofs.«01_k».proof.Proof.Gen.HeadIdeal.Value

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable (m : (ℓ : Loc nD τ sig) → Buf (Elt Ideal) ℓ) (c : Dev nD)

/-- The first grid point. -/
abbrev t0 : Fin cfg0.N := ⟨0, lt_of_lt_of_eq (by norm_num) N_0.symm⟩

/-- The activations every point finds in its scratch. -/
abbrev hS : FVec Ideal S256x5120 .bf16 := HN (iblk m c 2 t0) (iblk m c 3 t0)

/-- The factors every point finds in its scratch. -/
abbrev cS : FVec Ideal S256x128 .f32 := CN (iblk m c 0 t0) (iblk m c 1 t0)

/-- The scratch of activations the first point leaves. -/
theorem first_h (t : Fin cfg0.N) (h0 : t.val % 148 = 0) (h1 : ¬t.val % 148 = 147) :
    (outsAt0 m c t.val t.isLt).2.2.2.1 = HN (iblk m c 2 t) (iblk m c 3 t) := by
  rw [outsAt0_A m c t h0 h1]
  dsimp only
  rw [A_h c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)]

/-- The scratch of factors it leaves. -/
theorem first_c (t : Fin cfg0.N) (h0 : t.val % 148 = 0) (h1 : ¬t.val % 148 = 147) :
    (outsAt0 m c t.val t.isLt).2.2.2.2.2.2.2.2 = CN (iblk m c 0 t) (iblk m c 1 t) :=
  (congrArg (fun p => p.2.2.2.2.2.2.2.2) (outsAt0_A m c t h0 h1)).trans (A_c c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))

/-- The tile it leaves. -/
theorem first_z (t : Fin cfg0.N) (h0 : t.val % 148 = 0) (h1 : ¬t.val % 148 = 147) :
    (outsAt0 m c t.val t.isLt).1 = ZT (HN (iblk m c 2 t) (iblk m c 3 t)) (iblk m c 4 t) (iblk m c 5 t) (CN (iblk m c 0 t) (iblk m c 1 t)) :=
  (congrArg (fun p => p.1) (outsAt0_A m c t h0 h1)).trans (A_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))

/-- A further point. -/
theorem next_point (n : ℕ) (hn : n + 1 < cfg0.N) (hh : (outsAt0 m c n (by omega)).2.2.2.1 = hS m c)
    (hc : (outsAt0 m c n (by omega)).2.2.2.2.2.2.2.2 = cS m c) :
    (outsAt0 m c (n + 1) hn).1 = ZT (hS m c) (iblk m c 4 ⟨n + 1, hn⟩) (iblk m c 5 ⟨n + 1, hn⟩) (cS m c)
    ∧ (outsAt0 m c (n + 1) hn).2.2.2.1 = hS m c ∧ (outsAt0 m c (n + 1) hn).2.2.2.2.2.2.2.2 = cS m c := by
  have hN : n + 1 < 148 := lt_of_lt_of_eq hn N_0
  have h0 : ¬(⟨n + 1, hn⟩ : Fin cfg0.N).val % 148 = 0 := by show ¬(n + 1) % 148 = 0; omega
  by_cases h1 : (⟨n + 1, hn⟩ : Fin cfg0.N).val % 148 = 147
  · have e := outsAt0_C m c ⟨n + 1, hn⟩ h0 h1
    refine ⟨(congrArg (fun p => p.1) e).trans ?_, (congrArg (fun p => p.2.2.2.1) e).trans hh, (congrArg (fun p => p.2.2.2.2.2.2.2.2) e).trans hc⟩
    refine (C_out c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2)).trans ?_
    exact congrArg₂ (fun a b => ZT a (iblk m c 4 ⟨n + 1, hn⟩) (iblk m c 5 ⟨n + 1, hn⟩) b) hh hc
  · have e := outsAt0_B m c ⟨n + 1, hn⟩ h0 h1
    refine ⟨(congrArg (fun p => p.1) e).trans ?_, (congrArg (fun p => p.2.2.2.1) e).trans hh, (congrArg (fun p => p.2.2.2.2.2.2.2.2) e).trans hc⟩
    refine (B_out c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2)).trans ?_
    exact congrArg₂ (fun a b => ZT a (iblk m c 4 ⟨n + 1, hn⟩) (iblk m c 5 ⟨n + 1, hn⟩) b) hh hc

/-- Every point. -/
theorem every_point (n : ℕ) (hn : n < cfg0.N) : (outsAt0 m c n hn).1 = ZT (hS m c) (iblk m c 4 ⟨n, hn⟩) (iblk m c 5 ⟨n, hn⟩) (cS m c)
    ∧ (outsAt0 m c n hn).2.2.2.1 = hS m c ∧ (outsAt0 m c n hn).2.2.2.2.2.2.2.2 = cS m c := by
  induction n with
  | zero => exact ⟨first_z m c t0 (Nat.zero_mod _) (by norm_num), first_h m c t0 (Nat.zero_mod _) (by norm_num), first_c m c t0 (Nat.zero_mod _) (by norm_num)⟩
  | succ n ih => exact next_point m c n hn (ih (by omega)).2.1 (ih (by omega)).2.2

end Cert.HeadValue

end
-- ==== Proof.Group.lean ====
/- One row group of the `head` kernel: each lane's running maximum, rescaled sum and picked-out score as functions of
   whole arrays; and, at any one row group of 8 rows, that the vector operations the kernel stores there are the blocks
   of those functions. Every group uses the same lemmas. -/
module

public import proofs.«01_k».proof.Proof.Block
public import Idealize.ShloMosaic.PureOps.Ideal.Laws

@[expose] public section

set_option maxRecDepth 16384

noncomputable section

namespace Cert.HeadValue

open Cert.HeadIdeal Idealize.ShloMosaic Idealize.ShloMosaic.ValueIdx

/-- The `j`-th column of a tile that falls in a lane. -/
def colIx (y : S256x128.Idx) (j : Fin 4) : S256x512.Idx :=
  ix2 (n0 := 256) (n1 := 512) (y 0) ⟨128 * j.val + (y 1).val, by have := idx_lt (y := y) 1; have := j.isLt; simp at *; omega⟩
where idx_lt {y : S256x128.Idx} (a : Fin 2) : (y a).val < S256x128.size a := (y a).isLt

variable (acc : FVec Ideal S256x512 .f32) (cc m d hit : FVec Ideal S256x128 .f32) (ids : IVec S256x128 32) (tt : BitVec 32)

/-- The `j`-th score of a lane. -/
def zOf (j : Fin 4) (y : S256x128.Idx) : EReal := acc (colIx y j) * cc y

/-- A lane's maximum after the tile. -/
def MNew (y : S256x128.Idx) : EReal :=
  max (m y) (Ideal.liftRound Int.ceil (max (max (max (zOf acc cc 0 y) (zOf acc cc 1 y)) (zOf acc cc 2 y)) (zOf acc cc 3 y)))

/-- A lane's rescaled sum after the tile. -/
def DNew (y : S256x128.Idx) : EReal :=
  d y * Ideal.exp2 (m y - MNew acc cc m y) + Ideal.exp2 (zOf acc cc 0 y - MNew acc cc m y)
    + Ideal.exp2 (zOf acc cc 1 y - MNew acc cc m y) + Ideal.exp2 (zOf acc cc 2 y - MNew acc cc m y)
    + Ideal.exp2 (zOf acc cc 3 y - MNew acc cc m y)

/-- The `j`-th score of a lane where its column is the row's drafted token, else `0`. -/
def pick (j : Fin 4) (y : S256x128.Idx) : EReal :=
  if ids y - tt * 512#32 = BitVec.ofNat 32 (y 1).val + BitVec.ofNat 32 (128 * j.val) then zOf acc cc j y else 0

/-- A lane's picked-out score after the tile. -/
def HNew (y : S256x128.Idx) : EReal :=
  hit y + pick acc cc ids tt 0 y + pick acc cc ids tt 1 y + pick acc cc ids tt 2 y + pick acc cc ids tt 3 y

section Group

variable {acc cc m d hit ids tt}
variable {o : ℕ} {inb : ∀ a, (![o, 0] : Fin 2 → ℕ) a + S8x128.size a ≤ S256x128.size a}
variable {h0 : S256x512.Slices ![o, 0] S8x128} {h1 : S256x512.Slices ![o, 128] S8x128}
variable {h2 : S256x512.Slices ![o, 256] S8x128} {h3 : S256x512.Slices ![o, 384] S8x128}
variable {cv mv dv hv : FVec Ideal S8x128 .f32} {iv : IVec S8x128 32}

theorem z_at (j : Fin 4) {q : ℕ} (hj : q = 128 * j.val) {h : S256x512.Slices ![o, q] S8x128}
    (hc : ∀ x, cv x = cc ((Rect.unit (s := S256x128) ![o, 0] S8x128.size inb).emb x)) (x : S8x128.Idx) :
    mulf (extractStridedSlice S8x128 ![o, q] acc h) cv x = zOf acc cc j ((Rect.unit (s := S256x128) ![o, 0] S8x128.size inb).emb x) := by
  show extractStridedSlice S8x128 ![o, q] acc h x * cv x = _
  rw [hc x, extractStridedSlice_apply _ _ _ x (colIx ((Rect.unit (s := S256x128) ![o, 0] S8x128.size inb).emb x) j) fun a => by
    match a with
    | 0 => show o + 1 * (x 0).val = o + (x 0).val; omega
    | 1 => show 128 * j.val + (0 + 1 * (x 1).val) = q + (x 1).val; omega]
  rfl

variable {V z0 z1 z2 z3 p0 p1 p2 p3 n n0 n1 n2 n3 : FVec Ideal S8x128 .f32} {hs : S8x128.ShapeCasts S8x128}

/-- A group's new maximum. -/
theorem mk_block (hV : V = maximumf mv (ceil (maximumf (maximumf (maximumf z0 z1) z2) z3)))
    (hm : ∀ x, mv x = m ((Rect.unit (s := S256x128) ![o, 0] S8x128.size inb).emb x))
    (hz0 : ∀ x, z0 x = zOf acc cc 0 ((Rect.unit (s := S256x128) ![o, 0] S8x128.size inb).emb x))
    (hz1 : ∀ x, z1 x = zOf acc cc 1 ((Rect.unit (s := S256x128) ![o, 0] S8x128.size inb).emb x))
    (hz2 : ∀ x, z2 x = zOf acc cc 2 ((Rect.unit (s := S256x128) ![o, 0] S8x128.size inb).emb x))
    (hz3 : ∀ x, z3 x = zOf acc cc 3 ((Rect.unit (s := S256x128) ![o, 0] S8x128.size inb).emb x)) (x : S8x128.Idx) :
    V x = MNew acc cc m ((Rect.unit (s := S256x128) ![o, 0] S8x128.size inb).emb x) := by
  subst hV
  show max (mv x) (Ideal.liftRound Int.ceil (max (max (max (z0 x) (z1 x)) (z2 x)) (z3 x))) = _
  rw [hm x, hz0, hz1, hz2, hz3]
  rfl

theorem m_block (hV : V = shapeCast S8x128 n hs) (hn : ∀ x, n x = MNew acc cc m ((Rect.unit (s := S256x128) ![o, 0] S8x128.size inb).emb x)) (x : S8x128.Idx) :
    V x = MNew acc cc m ((Rect.unit (s := S256x128) ![o, 0] S8x128.size inb).emb x) := by
  rw [hV, shapeCast_self]; exact hn x

/-- A group's new sum. -/
theorem d_block
    (hV : V = shapeCast S8x128 (addf (addf (addf (addf (mulf dv (exp2 (subf mv n))) (exp2 (subf z0 n0))) (exp2 (subf z1 n1)))
        (exp2 (subf z2 n2))) (exp2 (subf z3 n3))) hs)
    (hd : ∀ x, dv x = d ((Rect.unit (s := S256x128) ![o, 0] S8x128.size inb).emb x))
    (hm : ∀ x, mv x = m ((Rect.unit (s := S256x128) ![o, 0] S8x128.size inb).emb x))
    (hn : ∀ x, n x = MNew acc cc m ((Rect.unit (s := S256x128) ![o, 0] S8x128.size inb).emb x))
    (hz0 : ∀ x, z0 x = zOf acc cc 0 ((Rect.unit (s := S256x128) ![o, 0] S8x128.size inb).emb x))
    (hn0 : ∀ x, n0 x = MNew acc cc m ((Rect.unit (s := S256x128) ![o, 0] S8x128.size inb).emb x))
    (hz1 : ∀ x, z1 x = zOf acc cc 1 ((Rect.unit (s := S256x128) ![o, 0] S8x128.size inb).emb x))
    (hn1 : ∀ x, n1 x = MNew acc cc m ((Rect.unit (s := S256x128) ![o, 0] S8x128.size inb).emb x))
    (hz2 : ∀ x, z2 x = zOf acc cc 2 ((Rect.unit (s := S256x128) ![o, 0] S8x128.size inb).emb x))
    (hn2 : ∀ x, n2 x = MNew acc cc m ((Rect.unit (s := S256x128) ![o, 0] S8x128.size inb).emb x))
    (hz3 : ∀ x, z3 x = zOf acc cc 3 ((Rect.unit (s := S256x128) ![o, 0] S8x128.size inb).emb x))
    (hn3 : ∀ x, n3 x = MNew acc cc m ((Rect.unit (s := S256x128) ![o, 0] S8x128.size inb).emb x)) (x : S8x128.Idx) :
    V x
      = DNew acc cc m d ((Rect.unit (s := S256x128) ![o, 0] S8x128.size inb).emb x) := by
  rw [hV, shapeCast_self]
  show dv x * Ideal.exp2 (mv x - n x) + Ideal.exp2 (z0 x - n0 x) + Ideal.exp2 (z1 x - n1 x) + Ideal.exp2 (z2 x - n2 x)
    + Ideal.exp2 (z3 x - n3 x) = _
  rw [hd, hm, hn, hz0, hn0, hz1, hn1, hz2, hn2, hz3, hn3]
  rfl

theorem pick_at (j : Fin 4) {q : ℕ} (hj : q = 128 * j.val) {hi : S8x128.Iotas .tc 32 [1]}
    {zv : FVec Ideal S8x128 .f32}
    (hz : ∀ x, zv x = zOf acc cc j ((Rect.unit (s := S256x128) ![o, 0] S8x128.size inb).emb x))
    (hiv : ∀ x, iv x = ids ((Rect.unit (s := S256x128) ![o, 0] S8x128.size inb).emb x)) (x : S8x128.Idx) :
    select (cmpi .eq (subi iv (broadcast S8x128 (Scalar.muli tt 512#32)))
        (addi (iota .tc S8x128 32 [1] hi) (broadcast S8x128 (BitVec.ofNat 32 q))))
      zv
      (broadcast S8x128 (Scalar.ofBits (F := Ideal) .f32 0x00000000#32)) x
      = pick acc cc ids tt j ((Rect.unit (s := S256x128) ![o, 0] S8x128.size inb).emb x) := by
  show (if BitVec.ofBool (iv x - tt * 512#32 == iota .tc S8x128 32 [1] hi x + BitVec.ofNat 32 q) = 1 then
    zv x else Ideal.ofBits .f32 0x00000000#32) = _
  rw [hz x, hiv x, Ideal.ofBits_zero_f32]
  have hl : iota .tc S8x128 32 [1] hi x = BitVec.ofNat 32 ((Rect.unit (s := S256x128) ![o, 0] S8x128.size inb).emb x 1).val := by
    show BitVec.ofNat 32 (0 * 128 + (x 1).val) = BitVec.ofNat 32 (0 + 1 * (x 1).val)
    congr 1; omega
  rw [hl, hj]
  unfold pick
  by_cases he : ids ((Rect.unit (s := S256x128) ![o, 0] S8x128.size inb).emb x) - tt * 512#32
      = BitVec.ofNat 32 ((Rect.unit (s := S256x128) ![o, 0] S8x128.size inb).emb x 1).val + BitVec.ofNat 32 (128 * j.val)
  · rw [if_pos he, if_pos]; rw [beq_iff_eq.mpr he]; rfl
  · rw [if_neg he, if_neg]; rw [beq_eq_false_iff_ne.mpr he]; decide

/-- A group's new picked-out scores. -/
theorem h_block
    (hV : V = shapeCast S8x128 (addf (addf (addf (addf hv p0) p1) p2) p3) hs)
    (hh : ∀ x, hv x = hit ((Rect.unit (s := S256x128) ![o, 0] S8x128.size inb).emb x))
    (hp0 : ∀ x, p0 x = pick acc cc ids tt 0 ((Rect.unit (s := S256x128) ![o, 0] S8x128.size inb).emb x))
    (hp1 : ∀ x, p1 x = pick acc cc ids tt 1 ((Rect.unit (s := S256x128) ![o, 0] S8x128.size inb).emb x))
    (hp2 : ∀ x, p2 x = pick acc cc ids tt 2 ((Rect.unit (s := S256x128) ![o, 0] S8x128.size inb).emb x))
    (hp3 : ∀ x, p3 x = pick acc cc ids tt 3 ((Rect.unit (s := S256x128) ![o, 0] S8x128.size inb).emb x)) (x : S8x128.Idx) :
    V x = HNew acc cc hit ids tt ((Rect.unit (s := S256x128) ![o, 0] S8x128.size inb).emb x) := by
  rw [hV, shapeCast_self]
  show hv x + p0 x + p1 x + p2 x + p3 x = _
  rw [hh, hp0, hp1, hp2, hp3]
  rfl

/-- The lanes of a group's drafted tokens, relative to the tile. -/
abbrev relIds (iv : IVec S8x128 32) (tt : BitVec 32) : IVec S8x128 32 := subi iv (broadcast S8x128 (Scalar.muli tt 512#32))

/-- A chunk of a group where its column is the drafted token, else `0`. -/
abbrev pickV (iv : IVec S8x128 32) (tt : BitVec 32) (hi : S8x128.Iotas .tc 32 [1]) (q : BitVec 32) (z : FVec Ideal S8x128 .f32) : FVec Ideal S8x128 .f32 :=
  select (cmpi .eq (relIds iv tt) (addi (iota .tc S8x128 32 [1] hi) (broadcast S8x128 q))) z
    (broadcast S8x128 (Scalar.ofBits (F := Ideal) .f32 0x00000000#32))

/-- A chunk of a group's scores. -/
abbrev zV (acc : FVec Ideal S256x512 .f32) (cv : FVec Ideal S8x128 .f32) (o q : ℕ) (h : S256x512.Slices ![o, q] S8x128) : FVec Ideal S8x128 .f32 :=
  mulf (extractStridedSlice S8x128 ![o, q] acc h) cv

/-- A group's new picked-out scores, from the group's loads. -/
theorem hit_group {hi : S8x128.Iotas .tc 32 [1]}
    (hV : V = shapeCast S8x128 (addf (addf (addf (addf hv (pickV iv tt hi 0#32 (zV acc cv o 0 h0))) (pickV iv tt hi 128#32 (zV acc cv o 128 h1)))
      (pickV iv tt hi 256#32 (zV acc cv o 256 h2))) (pickV iv tt hi 384#32 (zV acc cv o 384 h3))) hs)
    (hc : ∀ x, cv x = cc ((Rect.unit (s := S256x128) ![o, 0] S8x128.size inb).emb x))
    (hiv : ∀ x, iv x = ids ((Rect.unit (s := S256x128) ![o, 0] S8x128.size inb).emb x))
    (hh : ∀ x, hv x = hit ((Rect.unit (s := S256x128) ![o, 0] S8x128.size inb).emb x)) (x : S8x128.Idx) :
    V x = HNew acc cc hit ids tt ((Rect.unit (s := S256x128) ![o, 0] S8x128.size inb).emb x) :=
  h_block hV hh (pick_at 0 rfl (z_at 0 rfl hc) hiv) (pick_at 1 rfl (z_at 1 rfl hc) hiv) (pick_at 2 rfl (z_at 2 rfl hc) hiv)
    (pick_at 3 rfl (z_at 3 rfl hc) hiv) x

/-- A group's new maximum, from the group's loads. -/
abbrev maxV (acc : FVec Ideal S256x512 .f32) (cv mv : FVec Ideal S8x128 .f32) (o : ℕ) (h0 : S256x512.Slices ![o, 0] S8x128) (h1 : S256x512.Slices ![o, 128] S8x128)
    (h2 : S256x512.Slices ![o, 256] S8x128) (h3 : S256x512.Slices ![o, 384] S8x128) : FVec Ideal S8x128 .f32 :=
  maximumf mv (ceil (maximumf (maximumf (maximumf (zV acc cv o 0 h0) (zV acc cv o 128 h1)) (zV acc cv o 256 h2)) (zV acc cv o 384 h3)))

theorem max_at
    (hc : ∀ x, cv x = cc ((Rect.unit (s := S256x128) ![o, 0] S8x128.size inb).emb x))
    (hm : ∀ x, mv x = m ((Rect.unit (s := S256x128) ![o, 0] S8x128.size inb).emb x)) (x : S8x128.Idx) :
    maxV acc cv mv o h0 h1 h2 h3 x = MNew acc cc m ((Rect.unit (s := S256x128) ![o, 0] S8x128.size inb).emb x) :=
  mk_block rfl hm (z_at 0 rfl hc) (z_at 1 rfl hc) (z_at 2 rfl hc) (z_at 3 rfl hc) x

theorem max_group (hV : V = shapeCast S8x128 (maxV acc cv mv o h0 h1 h2 h3) hs)
    (hc : ∀ x, cv x = cc ((Rect.unit (s := S256x128) ![o, 0] S8x128.size inb).emb x))
    (hm : ∀ x, mv x = m ((Rect.unit (s := S256x128) ![o, 0] S8x128.size inb).emb x)) (x : S8x128.Idx) :
    V x = MNew acc cc m ((Rect.unit (s := S256x128) ![o, 0] S8x128.size inb).emb x) := m_block hV (max_at hc hm) x

/-- A group's new sum, from the group's loads. -/
theorem sum_group (hV : V = shapeCast S8x128 (addf (addf (addf (addf (mulf dv (exp2 (subf mv (maxV acc cv mv o h0 h1 h2 h3))))
        (exp2 (subf (zV acc cv o 0 h0) (maxV acc cv mv o h0 h1 h2 h3)))) (exp2 (subf (zV acc cv o 128 h1) (maxV acc cv mv o h0 h1 h2 h3))))
        (exp2 (subf (zV acc cv o 256 h2) (maxV acc cv mv o h0 h1 h2 h3)))) (exp2 (subf (zV acc cv o 384 h3) (maxV acc cv mv o h0 h1 h2 h3)))) hs)
    (hc : ∀ x, cv x = cc ((Rect.unit (s := S256x128) ![o, 0] S8x128.size inb).emb x))
    (hm : ∀ x, mv x = m ((Rect.unit (s := S256x128) ![o, 0] S8x128.size inb).emb x))
    (hd : ∀ x, dv x = d ((Rect.unit (s := S256x128) ![o, 0] S8x128.size inb).emb x)) (x : S8x128.Idx) :
    V x = DNew acc cc m d ((Rect.unit (s := S256x128) ![o, 0] S8x128.size inb).emb x) :=
  d_block hV hd hm (max_at hc hm) (z_at 0 rfl hc) (max_at hc hm) (z_at 1 rfl hc) (max_at hc hm) (z_at 2 rfl hc) (max_at hc hm)
    (z_at 3 rfl hc) (max_at hc hm) x

end Group

end Cert.HeadValue

end
-- ==== Proof.Online.lean ====
/- The running base-2 log-sum-exp over the extended reals, as mathematics of numbers alone: a lane's running pair
   (maximum, scaled sum) after any tiles, the lanes combined at the end, and the direct formula over all scores. -/
module

public import Idealize.ShloMosaic.PureOps.Ideal.Laws

@[expose] public section

noncomputable section

namespace Cert.Online

open Idealize.ShloMosaic

/-- The real weight `2^z` of a score below `⊤` (`0` at `⊥`). -/
def w (z : EReal) : ℝ := if z = ⊥ ∨ z = ⊤ then 0 else (2 : ℝ) ^ z.toReal

theorem w_bot : w ⊥ = 0 := by simp [w]
theorem w_coe (r : ℝ) : w (r : EReal) = (2 : ℝ) ^ r := by
  simp [w]
theorem w_nonneg (z : EReal) : 0 ≤ w z := by
  unfold w; split
  · exact le_rfl
  · positivity

theorem exp2_sub (z : EReal) (hz : z ≠ ⊤) (r : ℝ) :
    Ideal.exp2 (z - (r : EReal)) = ((w z * (2 : ℝ) ^ (-r) : ℝ) : EReal) := by
  induction z using EReal.rec with
  | bot => rw [EReal.bot_sub, Ideal.exp2_bot, w_bot]; simp
  | top => exact absurd rfl hz
  | coe a =>
    rw [← EReal.coe_sub, Ideal.exp2_coe, w_coe, ← Real.rpow_add (by norm_num)]
    rw [sub_eq_add_neg]; rfl

theorem pow_two_eq_exp2 (z : EReal) : Ideal.pow ((2 : ℝ) : EReal) z = Ideal.exp2 z := by
  induction z using EReal.rec with
  | bot => show (if (2 : ℝ) < 0 then (⊥ : EReal) else if (1 : ℝ) < 2 then 0 else _) = 0; norm_num
  | top => show (if (2 : ℝ) < 0 then (⊥ : EReal) else if (1 : ℝ) < 2 then ⊤ else _) = ⊤; norm_num
  | coe a => rfl

theorem sub_top (z : EReal) : z - ⊤ = ⊥ := by
  rw [sub_eq_add_neg, EReal.neg_top, EReal.add_bot]

theorem exp2_sub_top (z : EReal) : Ideal.exp2 (z - ⊤) = 0 := by
  rw [sub_top, Ideal.exp2_bot]

theorem ceil_top : Ideal.liftRound Int.ceil ⊤ = ⊤ := rfl
theorem ceil_bot : Ideal.liftRound Int.ceil ⊥ = ⊥ := rfl
theorem ceil_coe (r : ℝ) : Ideal.liftRound Int.ceil (r : EReal) = ((⌈r⌉ : ℝ) : EReal) := rfl

theorem max_coe_real (r : ℝ) {y : EReal} (hy : y ≠ ⊤) : ∃ r' : ℝ, max (r : EReal) y = r' := by
  induction y using EReal.rec with
  | bot => exact ⟨r, by simp⟩
  | top => exact absurd rfl hy
  | coe a =>
    rcases le_total r a with h | h
    · exact ⟨a, max_eq_right (EReal.coe_le_coe_iff.mpr h)⟩
    · exact ⟨r, max_eq_left (EReal.coe_le_coe_iff.mpr h)⟩

theorem ceil_ne_top {z : EReal} (hz : z ≠ ⊤) : Ideal.liftRound Int.ceil z ≠ ⊤ := by
  induction z using EReal.rec with
  | bot => rw [ceil_bot]; exact bot_ne_top
  | top => exact absurd rfl hz
  | coe a => rw [ceil_coe]; exact EReal.coe_ne_top _

/-- A lane's running pair: `T` says some score so far is `⊤`, `S` is the sum of the others' weights. -/
def St (T : Prop) (S : ℝ) (m d : EReal) : Prop :=
  (T → m = ⊤) ∧ (¬T → ∃ r : ℝ, m = r ∧ d = ((S * (2 : ℝ) ^ (-r) : ℝ) : EReal))

theorem St.init (r : ℝ) : St False 0 (r : EReal) 0 :=
  ⟨False.elim, fun _ => ⟨r, rfl, by simp⟩⟩

theorem St.step {T : Prop} {S : ℝ} {m d : EReal} (h : St T S m d) (z0 z1 z2 z3 m' : EReal)
    (hm : m' = max m (Ideal.liftRound Int.ceil (max (max (max z0 z1) z2) z3))) :
    St (T ∨ z0 = ⊤ ∨ z1 = ⊤ ∨ z2 = ⊤ ∨ z3 = ⊤) (S + (w z0 + w z1 + w z2 + w z3)) m'
      (d * Ideal.exp2 (m - m') + Ideal.exp2 (z0 - m') + Ideal.exp2 (z1 - m') + Ideal.exp2 (z2 - m') + Ideal.exp2 (z3 - m')) := by
  constructor
  · rintro (hT | hz)
    · rw [hm, h.1 hT]; exact top_sup_eq _
    · have : max (max (max z0 z1) z2) z3 = ⊤ := by
        rcases hz with h | h | h | h <;> subst h <;> simp
      rw [hm, this, ceil_top]; exact sup_top_eq _
  · intro hn
    have hT : ¬T := fun h => hn (.inl h)
    have h0 : z0 ≠ ⊤ := fun h => hn (.inr (.inl h))
    have h1 : z1 ≠ ⊤ := fun h => hn (.inr (.inr (.inl h)))
    have h2 : z2 ≠ ⊤ := fun h => hn (.inr (.inr (.inr (.inl h))))
    have h3 : z3 ≠ ⊤ := fun h => hn (.inr (.inr (.inr (.inr h))))
    obtain ⟨r, rfl, rfl⟩ := h.2 hT
    have hM : max (max (max z0 z1) z2) z3 ≠ ⊤ := by
      have := max_lt (max_lt (max_lt h0.lt_top h1.lt_top) h2.lt_top) h3.lt_top
      exact this.ne
    obtain ⟨r', hr'⟩ := max_coe_real r (ceil_ne_top hM)
    rw [hr'] at hm; subst hm
    refine ⟨r', rfl, ?_⟩
    rw [exp2_sub _ h0, exp2_sub _ h1, exp2_sub _ h2, exp2_sub _ h3, exp2_sub _ (EReal.coe_ne_top r), w_coe,
      ← EReal.coe_mul, ← EReal.coe_add, ← EReal.coe_add, ← EReal.coe_add, ← EReal.coe_add]
    congr 1
    have : (2 : ℝ) ^ (-r) * (2 : ℝ) ^ r = 1 := by
      rw [← Real.rpow_add (by norm_num)]; simp
    linear_combination (S * (2 : ℝ) ^ (-r')) * this

/-- The base-2 log-sum-exp of scores whose weights sum to `S`, `⊥` once one of them is `⊤` (`⊤ - ⊤` being `⊥`). -/
def lse (T : Prop) (S : ℝ) : EReal :=
  open Classical in if T then ⊥ else if S = 0 then ⊥ else ((Real.log S / Real.log 2 : ℝ) : EReal)

theorem log_two : Ideal.log ((2 : ℝ) : EReal) = ((Real.log 2 : ℝ) : EReal) := by
  show (if (2 : ℝ) ≤ 0 then (⊥ : EReal) else _) = _
  rw [if_neg (by norm_num)]

theorem log_zero : Ideal.log 0 = ⊥ := by
  show (if (0 : ℝ) ≤ 0 then (⊥ : EReal) else _) = _
  rw [if_pos le_rfl]

theorem log_two_ne : Real.log 2 ≠ 0 := (Real.log_pos (by norm_num)).ne'

theorem bot_div_log_two : Ideal.div ⊥ (Ideal.log ((2 : ℝ) : EReal)) = ⊥ := by
  rw [log_two, Ideal.div_coe log_two_ne]
  exact EReal.bot_mul_coe_of_pos (by have := Real.log_pos (show (1 : ℝ) < 2 by norm_num); positivity)

/-- What a maximum and a scaled sum are worth together. -/
theorem finish {T : Prop} {S : ℝ} (hS : 0 ≤ S) {m d : EReal} (hT : T → d = 0)
    (hn : ¬T → ∃ r : ℝ, m = r ∧ d = ((S * (2 : ℝ) ^ (-r) : ℝ) : EReal)) :
    m + Ideal.div (Ideal.log d) (Ideal.log ((2 : ℝ) : EReal)) = lse T S := by
  unfold lse
  by_cases h : T
  · rw [if_pos h, hT h, log_zero, bot_div_log_two, EReal.add_bot]
  · rw [if_neg h]
    obtain ⟨r, rfl, rfl⟩ := hn h
    by_cases h0 : S = 0
    · rw [if_pos h0, h0, zero_mul, EReal.coe_zero, log_zero, bot_div_log_two, EReal.add_bot]
    · rw [if_neg h0]
      have hp : 0 < S := lt_of_le_of_ne hS (Ne.symm h0)
      have hq : 0 < S * (2 : ℝ) ^ (-r) := by positivity
      have : Ideal.log ((S * (2 : ℝ) ^ (-r) : ℝ) : EReal) = ((Real.log (S * (2 : ℝ) ^ (-r)) : ℝ) : EReal) := by
        show (if (S * (2 : ℝ) ^ (-r) : ℝ) ≤ 0 then (⊥ : EReal) else _) = _
        rw [if_neg (not_le.mpr hq)]
      rw [this, log_two, Ideal.div_coe log_two_ne, ← EReal.coe_mul, ← EReal.coe_add]
      congr 1
      rw [Real.log_mul hp.ne' (by positivity), Real.log_rpow (by norm_num)]
      field_simp [log_two_ne]
      ring

/-- A finite family's maximum, folded from `⊥`. -/
def top {n : ℕ} (m : Fin n → EReal) : EReal := (Finset.univ : Finset (Fin n)).fold max ⊥ m

theorem top_eq_top {n : ℕ} {m : Fin n → EReal} {l : Fin n} (h : m l = ⊤) : top m = ⊤ := by
  unfold top
  have : (m l) ≤ (Finset.univ : Finset (Fin n)).fold max ⊥ m := by
    rw [Finset.le_fold_max]; exact .inr ⟨l, Finset.mem_univ _, le_rfl⟩
  rw [h] at this; exact top_le_iff.mp this

theorem top_ne_top {n : ℕ} {m : Fin n → EReal} (h : ∀ l, m l ≠ ⊤) : top m ≠ ⊤ := by
  unfold top
  refine ne_of_lt ?_
  rw [Finset.fold_max_lt]
  exact ⟨bot_lt_top, fun l _ => (h l).lt_top⟩

theorem le_top {n : ℕ} (m : Fin n → EReal) (l : Fin n) : m l ≤ top m := by
  unfold top; rw [Finset.le_fold_max]; exact .inr ⟨l, Finset.mem_univ _, le_rfl⟩

theorem top_real {n : ℕ} {m : Fin n → EReal} (h : ∀ l, m l ≠ ⊤) (l : Fin n) (hl : m l ≠ ⊥) : ∃ r : ℝ, top m = r := by
  have h1 := top_ne_top h
  have h2 : top m ≠ ⊥ := fun e => hl (by have := le_top m l; rw [e] at this; exact le_bot_iff.mp this)
  exact ⟨(top m).toReal, (EReal.coe_toReal h1 h2).symm⟩

theorem top_bot {n : ℕ} {m : Fin n → EReal} (h : ∀ l, m l = ⊥) : top m = ⊥ := by
  have : top m ≤ ⊥ := by
    unfold top; rw [Finset.fold_max_le]; exact ⟨le_rfl, fun l _ => (h l).le⟩
  exact le_bot_iff.mp this

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The lanes combined: the maximum of the running maxima, the sum of the rescaled sums. -/
theorem lanes {n : ℕ} (l0 : Fin n) (T : Fin n → Prop) (S : Fin n → ℝ) (hS : ∀ l, 0 ≤ S l) (m d : Fin n → EReal)
    (h : ∀ l, St (T l) (S l) (m l) (d l)) :
    top m + Ideal.div (Ideal.log (∑ l, d l * Ideal.exp2 (m l - top m))) (Ideal.log ((2 : ℝ) : EReal))
      = lse (∃ l, T l) (∑ l, S l) := by
  refine finish (Finset.sum_nonneg fun l _ => hS l) ?_ ?_
  · rintro ⟨l, hl⟩
    rw [top_eq_top ((h l).1 hl)]
    refine Finset.sum_eq_zero fun l _ => ?_
    rw [exp2_sub_top, mul_zero]
  · intro hn
    have hr : ∀ l, ∃ r : ℝ, m l = r ∧ d l = ((S l * (2 : ℝ) ^ (-r) : ℝ) : EReal) := fun l => (h l).2 fun hl => hn ⟨l, hl⟩
    choose r hm hd using hr
    obtain ⟨R, hR⟩ := top_real (m := m) (fun l => by rw [hm]; exact EReal.coe_ne_top _) l0 (by rw [hm]; exact EReal.coe_ne_bot _)
    refine ⟨R, hR, ?_⟩
    rw [hR, Finset.sum_mul, coe_sum]
    refine Finset.sum_congr rfl fun l _ => ?_
    rw [hd, hm, exp2_sub _ (EReal.coe_ne_top _), w_coe, ← EReal.coe_mul]
    congr 1
    have : (2 : ℝ) ^ (-(r l)) * (2 : ℝ) ^ (r l) = 1 := by
      rw [← Real.rpow_add (by norm_num)]; simp
    linear_combination (S l * (2 : ℝ) ^ (-R)) * this

/-- The direct formula: the scores' maximum rounded up, the sum of the powers of 2 of the differences. -/
theorem direct {n : ℕ} (z : Fin n → EReal) :
    Ideal.liftRound Int.ceil (top z)
        + Ideal.div (Ideal.log (∑ v, Ideal.exp2 (z v - Ideal.liftRound Int.ceil (top z)))) (Ideal.log ((2 : ℝ) : EReal))
      = lse (∃ v, z v = ⊤) (∑ v, w (z v)) := by
  by_cases hT : ∃ v, z v = ⊤
  · refine finish (Finset.sum_nonneg fun l _ => w_nonneg _) (fun _ => ?_) (fun h => absurd hT h)
    obtain ⟨v, hv⟩ := hT
    rw [top_eq_top hv, ceil_top]
    exact Finset.sum_eq_zero fun l _ => exp2_sub_top _
  · have hz : ∀ v, z v ≠ ⊤ := fun v hv => hT ⟨v, hv⟩
    by_cases hb : ∀ v, z v = ⊥
    · have hS : ∑ v, w (z v) = 0 := Finset.sum_eq_zero fun v _ => by rw [hb v, w_bot]
      have hd : ∑ v, Ideal.exp2 (z v - Ideal.liftRound Int.ceil (top z)) = 0 :=
        Finset.sum_eq_zero fun v _ => by rw [hb v, EReal.bot_sub, Ideal.exp2_bot]
      rw [hd, hS, log_zero, bot_div_log_two, EReal.add_bot]
      unfold lse; rw [if_neg hT, if_pos rfl]
    · obtain ⟨v0, hv0⟩ := not_forall.mp hb
      refine finish (Finset.sum_nonneg fun l _ => w_nonneg _) (fun h => absurd h hT) (fun _ => ?_)
      obtain ⟨r, hr⟩ := top_real hz v0 hv0
      refine ⟨(⌈r⌉ : ℝ), by rw [hr, ceil_coe], ?_⟩
      rw [hr, ceil_coe, Finset.sum_mul, coe_sum]
      exact Finset.sum_congr rfl fun v _ => exp2_sub _ (hz v) _

end Cert.Online

end
-- ==== Proof.LaneMath.lean ====
/- The lanes' scratch as the tile's scores alone: one tile's update in terms of the tile of scores it stores, the lanes
   after any number of tiles, and the lanes of all tiles re-indexed as the columns of the whole array. -/
module

public import proofs.«01_k».proof.Proof.Tile
public import proofs.«01_k».proof.Proof.Group
public import proofs.«01_k».proof.Proof.Online

@[expose] public section

set_option maxRecDepth 16384

noncomputable section

namespace Cert.HeadValue

open Cert.HeadIdeal Idealize.ShloMosaic Idealize.ShloMosaic.ValueIdx

/-- A lane's maximum after a tile of scores. -/
def MZ (Z : FVec Ideal S256x512 .f32) (m : FVec Ideal S256x128 .f32) (y : S256x128.Idx) : EReal :=
  max (m y) (Ideal.liftRound Int.ceil (max (max (max (Z (colIx y 0)) (Z (colIx y 1))) (Z (colIx y 2))) (Z (colIx y 3))))

/-- A lane's rescaled sum after a tile of scores. -/
def DZ (Z : FVec Ideal S256x512 .f32) (m d : FVec Ideal S256x128 .f32) (y : S256x128.Idx) : EReal :=
  d y * Ideal.exp2 (m y - MZ Z m y) + Ideal.exp2 (Z (colIx y 0) - MZ Z m y) + Ideal.exp2 (Z (colIx y 1) - MZ Z m y)
    + Ideal.exp2 (Z (colIx y 2) - MZ Z m y) + Ideal.exp2 (Z (colIx y 3) - MZ Z m y)

/-- A lane's `j`-th score of a tile where its column is the row's drafted token, else `0`. -/
def pickZ (Z : FVec Ideal S256x512 .f32) (ids : IVec S256x128 32) (tt : BitVec 32) (j : Fin 4) (y : S256x128.Idx) : EReal :=
  if ids y - tt * 512#32 = BitVec.ofNat 32 (y 1).val + BitVec.ofNat 32 (128 * j.val) then Z (colIx y j) else 0

/-- A lane's picked-out score after a tile of scores. -/
def HZ (Z : FVec Ideal S256x512 .f32) (hit : FVec Ideal S256x128 .f32) (ids : IVec S256x128 32) (tt : BitVec 32) (y : S256x128.Idx) : EReal :=
  hit y + pickZ Z ids tt 0 y + pickZ Z ids tt 1 y + pickZ Z ids tt 2 y + pickZ Z ids tt 3 y

section Tile

variable {Z acc : FVec Ideal S256x512 .f32} {cc : FVec Ideal S256x128 .f32} (h : Z = ZNew acc cc)
include h

theorem z_of (j : Fin 4) (y : S256x128.Idx) : zOf acc cc j y = Z (colIx y j) := by
  rw [h]
  show acc (colIx y j) * cc y = acc (colIx y j) * cc _
  refine congrArg (fun a => acc (colIx y j) * cc a) (funext fun a => Fin.ext ?_)
  have h1 : (y 1).val < 128 := (y 1).isLt
  match a with
  | 0 => rfl
  | 1 => show (y 1).val = (128 * j.val + (y 1).val) % 128; omega

theorem MNew_z (m : FVec Ideal S256x128 .f32) : MNew acc cc m = MZ Z m := by
  funext y
  simp only [MNew, MZ, z_of h]

theorem DNew_z (m d : FVec Ideal S256x128 .f32) : DNew acc cc m d = DZ Z m d := by
  funext y
  simp only [DNew, DZ, z_of h, MNew_z h]

theorem HNew_z (hit : FVec Ideal S256x128 .f32) (ids : IVec S256x128 32) (tt : BitVec 32) : HNew acc cc hit ids tt = HZ Z hit ids tt := by
  funext y
  simp only [HNew, HZ, pick, pickZ, z_of h]

end Tile

/-- The four columns of a lane, and the lanes, of `n` tiles: all `512 * n` columns. -/
theorem sum_lanes {M : Type*} [AddCommMonoid M] (f : ℕ → M) (n : ℕ) :
    ∑ l : Fin 128, ∑ k ∈ Finset.range n, ∑ j : Fin 4, f (512 * k + (128 * j.val + l.val)) = ∑ v ∈ Finset.range (512 * n), f v := by
  rw [Finset.sum_comm]
  induction n with
  | zero => simp
  | succ n ih =>
    rw [Finset.sum_range_succ, ih, show 512 * (n + 1) = 512 * n + 512 by ring, Finset.sum_range_add]
    congr 1
    rw [Finset.sum_comm, Finset.sum_range (n := 512) (fun x => f (512 * n + x))]
    rw [← (finProdFinEquiv (m := 4) (n := 128)).sum_comp (fun x : Fin (4 * 128) => f (512 * n + x.val)), Fintype.sum_prod_type]
    refine Finset.sum_congr rfl fun j _ => Finset.sum_congr rfl fun l _ => ?_
    congr 2
    show 128 * j.val + l.val = l.val + 128 * j.val
    omega

/-- A column of `n` tiles is some lane's. -/
theorem exists_lanes (p : ℕ → Prop) (n : ℕ) :
    (∃ l : Fin 128, ∃ k < n, ∃ j : Fin 4, p (512 * k + (128 * j.val + l.val))) ↔ ∃ v < 512 * n, p v := by
  constructor
  · rintro ⟨l, k, hk, j, h⟩; exact ⟨_, by have := l.isLt; have := j.isLt; omega, h⟩
  · rintro ⟨v, hv, h⟩
    refine ⟨⟨v % 128, Nat.mod_lt _ (by norm_num)⟩, v / 512, by omega, ⟨v % 512 / 128, by omega⟩, ?_⟩
    have : 512 * (v / 512) + (128 * (v % 512 / 128) + v % 128) = v := by omega
    rw [this]; exact h

/-- One more tile of a lane's state. -/
theorem St_next {f : ℕ → EReal} {l : Fin 128} {n : ℕ} {m d : EReal} {z0 z1 z2 z3 m' : EReal}
    (h : Online.St (∃ k < n, ∃ j : Fin 4, f (512 * k + (128 * j.val + l.val)) = ⊤)
      (∑ k ∈ Finset.range n, ∑ j : Fin 4, Online.w (f (512 * k + (128 * j.val + l.val)))) m d)
    (hz0 : z0 = f (512 * n + (128 * (0 : Fin 4).val + l.val))) (hz1 : z1 = f (512 * n + (128 * (1 : Fin 4).val + l.val)))
    (hz2 : z2 = f (512 * n + (128 * (2 : Fin 4).val + l.val))) (hz3 : z3 = f (512 * n + (128 * (3 : Fin 4).val + l.val)))
    (hm : m' = max m (Ideal.liftRound Int.ceil (max (max (max z0 z1) z2) z3))) :
    Online.St (∃ k < n + 1, ∃ j : Fin 4, f (512 * k + (128 * j.val + l.val)) = ⊤)
      (∑ k ∈ Finset.range (n + 1), ∑ j : Fin 4, Online.w (f (512 * k + (128 * j.val + l.val)))) m'
      (d * Ideal.exp2 (m - m') + Ideal.exp2 (z0 - m') + Ideal.exp2 (z1 - m') + Ideal.exp2 (z2 - m') + Ideal.exp2 (z3 - m')) := by
  have e := h.step z0 z1 z2 z3 m' hm
  rw [Finset.sum_range_succ, Fin.sum_univ_four, ← hz0, ← hz1, ← hz2, ← hz3]
  have hT : (∃ k < n + 1, ∃ j : Fin 4, f (512 * k + (128 * j.val + l.val)) = ⊤)
      = ((∃ k < n, ∃ j : Fin 4, f (512 * k + (128 * j.val + l.val)) = ⊤) ∨ z0 = ⊤ ∨ z1 = ⊤ ∨ z2 = ⊤ ∨ z3 = ⊤) := by
    refine propext ⟨?_, ?_⟩
    · rintro ⟨k, hk, j, hj⟩
      rcases Nat.lt_succ_iff_lt_or_eq.mp hk with hk | rfl
      · exact .inl ⟨k, hk, j, hj⟩
      · refine .inr ?_
        rw [hz0, hz1, hz2, hz3]
        match j with
        | 0 => exact .inl hj
        | 1 => exact .inr (.inl hj)
        | 2 => exact .inr (.inr (.inl hj))
        | 3 => exact .inr (.inr (.inr hj))
    · rintro (⟨k, hk, j, hj⟩ | h | h | h | h)
      · exact ⟨k, by omega, j, hj⟩
      · exact ⟨n, by omega, 0, hz0 ▸ h⟩
      · exact ⟨n, by omega, 1, hz1 ▸ h⟩
      · exact ⟨n, by omega, 2, hz2 ▸ h⟩
      · exact ⟨n, by omega, 3, hz3 ▸ h⟩
  rw [hT]
  exact e

/-- Column `v` is the drafted token of its tile and lane exactly when it is the drafted token. -/
theorem id_iff (a : BitVec 32) (k j l : ℕ) :
    a - BitVec.ofNat 32 k * 512#32 = BitVec.ofNat 32 l + BitVec.ofNat 32 (128 * j) ↔ a = BitVec.ofNat 32 (512 * k + (128 * j + l)) := by
  have e : BitVec.ofNat 32 (512 * k + (128 * j + l)) = BitVec.ofNat 32 l + BitVec.ofNat 32 (128 * j) + BitVec.ofNat 32 k * 512#32 := by
    have hk : BitVec.ofNat 32 (k * 512) = BitVec.ofNat 32 k * 512#32 := BitVec.ofNat_mul ..
    rw [show 512 * k + (128 * j + l) = l + 128 * j + k * 512 by ring, BitVec.ofNat_add, BitVec.ofNat_add, hk]
  rw [e]
  constructor
  · intro h; rw [← h, BitVec.sub_add_cancel]
  · intro h; rw [h, BitVec.add_sub_cancel]

end Cert.HeadValue

end
-- ==== Proof.Shadow.lean ====
/- A scratch filled whole and then overwritten, eight rows at a time from the top: what its rows hold on the way, and
   once every row has been overwritten. -/
module

public import proofs.«01_k».proof.Proof.Block

@[expose] public section

noncomputable section

namespace Cert.HeadValue

open Cert.HeadIdeal Idealize.ShloMosaic Idealize.ShloMosaic.ValueIdx

variable (N N' G : FVec Ideal S256x128 .f32)

/-- The scratch was filled with `N`, and only rows above row `o` were overwritten since. -/
inductive Rest : ℕ → List (View.Piece (Elt Ideal) S256x128 .f32) → Prop
  | init {o : ℕ} {inb : ∀ a, (![0, 0] : Fin 2 → ℕ) a + S256x128.size a ≤ S256x128.size a} :
      Rest o [⟨Rect.unit (s := S256x128) ![0, 0] S256x128.size inb, N⟩]
  | step {o p : ℕ} {inb : ∀ a, (![p, 0] : Fin 2 → ℕ) a + S8x128.size a ≤ S256x128.size a} {v : FVec Ideal S8x128 .f32}
      {L : List (View.Piece (Elt Ideal) S256x128 .f32)} (h : p + 8 ≤ o) (hL : Rest o L) :
      Rest o (⟨Rect.unit (s := S256x128) ![p, 0] S8x128.size inb, v⟩ :: L)

/-- Two scratches filled with `N` and `N'`, and then overwritten in turn, their first `k` groups of rows: the first one's
    by those of `G`, as far as the groups below are as filled. -/
inductive Over : ℕ → List (View.Piece (Elt Ideal) S256x128 .f32) → List (View.Piece (Elt Ideal) S256x128 .f32) → Prop
  | init {inb inb' : ∀ a, (![0, 0] : Fin 2 → ℕ) a + S256x128.size a ≤ S256x128.size a} :
      Over 0 [⟨Rect.unit (s := S256x128) ![0, 0] S256x128.size inb, N⟩] [⟨Rect.unit (s := S256x128) ![0, 0] S256x128.size inb', N'⟩]
  | step (k : ℕ) {inb inb' : ∀ a, (![8 * k, 0] : Fin 2 → ℕ) a + S8x128.size a ≤ S256x128.size a} {v v' : FVec Ideal S8x128 .f32}
      {L L' : List (View.Piece (Elt Ideal) S256x128 .f32)} (hL : Over k L L')
      (h : Rest N (8 * k) L → Rest N' (8 * k) L' → ∀ x, v x = G ((Rect.unit (s := S256x128) ![8 * k, 0] S8x128.size inb).emb x)) :
      Over (k + 1) (⟨Rect.unit (s := S256x128) ![8 * k, 0] S8x128.size inb, v⟩ :: L)
        (⟨Rect.unit (s := S256x128) ![8 * k, 0] S8x128.size inb', v'⟩ :: L')

variable {N N' G}

/-- The row of an index inside a group of rows. -/
theorem row_of_group {p : ℕ} {inb : ∀ a, (![p, 0] : Fin 2 → ℕ) a + S8x128.size a ≤ S256x128.size a} {y : S256x128.Idx}
    (x : S8x128.Idx) (h : (Rect.unit (s := S256x128) ![p, 0] S8x128.size inb).emb x = y) : p ≤ (y 0).val ∧ (y 0).val < p + 8 := by
  have hx : (x 0).val < 8 := (x 0).isLt
  have e : (y 0).val = p + 1 * (x 0).val := by rw [← h]; rfl
  omega

/-- Below the overwritten rows the scratch is as filled. -/
theorem Rest.canon {o : ℕ} {L : List (View.Piece (Elt Ideal) S256x128 .f32)} (h : Rest N o L) (y : S256x128.Idx) (hy : o ≤ (y 0).val) :
    View.canon L y = N y := by
  induction h with
  | init => exact congrFun (View.canon_unit_zero (by funext a; match a with | 0 => rfl | 1 => rfl) _ _) y
  | step h hL ih =>
    rw [View.canon_cons_of_not_mem]
    · exact ih
    intro hm
    obtain ⟨x, hx⟩ := LoadRect.exists_idx_of_mem _ hm
    have := row_of_group (inb := by assumption) x hx
    omega

theorem Rest.mono {o o' : ℕ} {L : List (View.Piece (Elt Ideal) S256x128 .f32)} (ho : o ≤ o') (h : Rest N o L) : Rest N o' L := by
  induction h with
  | init => exact .init
  | step h _ ih => exact .step (h.trans ho) ih

theorem Over.rests {k : ℕ} {L L' : List (View.Piece (Elt Ideal) S256x128 .f32)} (h : Over N N' G k L L') :
    Rest N (8 * k) L ∧ Rest N' (8 * k) L' := by
  induction h with
  | init => exact ⟨.init, .init⟩
  | step k hL h ih => exact ⟨.step (by omega) (ih.1.mono (by omega)), .step (by omega) (ih.2.mono (by omega))⟩

/-- The overwritten rows are those of `G`. -/
theorem Over.canon {k : ℕ} {L L' : List (View.Piece (Elt Ideal) S256x128 .f32)} (h : Over N N' G k L L') (y : S256x128.Idx)
    (hy : (y 0).val < 8 * k) : View.canon L y = G y := by
  induction h with
  | init => omega
  | @step k inb inb' v v' L L' hL h ih =>
    have h1 : (y 1).val < 128 := (y 1).isLt
    by_cases hr : 8 * k ≤ (y 0).val
    · have e : (Rect.unit (s := S256x128) ![8 * k, 0] S8x128.size inb).emb
          (ix2 (n0 := 8) (n1 := 128) ⟨(y 0).val - 8 * k, by omega⟩ ⟨(y 1).val, h1⟩) = y := funext fun a => Fin.ext (by
        match a with
        | 0 => show 8 * k + 1 * ((y 0).val - 8 * k) = (y 0).val; omega
        | 1 => show 0 + 1 * (y 1).val = (y 1).val; omega)
      rw [← e]
      exact (View.canon_cons_emb _ _ _ _).trans (h hL.rests.1 hL.rests.2 _)
    · rw [View.canon_cons_of_not_mem, ih (by omega)]
      intro hm
      obtain ⟨x, hx⟩ := LoadRect.exists_idx_of_mem _ hm
      have := row_of_group (inb := by assumption) x hx
      omega

/-- Once all 32 groups are overwritten, the scratch is `G`. -/
theorem Over.whole {L L' : List (View.Piece (Elt Ideal) S256x128 .f32)} (h : Over N N' G 32 L L') : View.canon L = G :=
  funext fun y => h.canon y (y 0).isLt

/-- A group of rows loaded before it is overwritten. -/
theorem Rest.load {o : ℕ} {L : List (View.Piece (Elt Ideal) S256x128 .f32)} {κ : Kind} {sp : Space}
    (v : View sig κ sp S256x128 .f32) (h : Rest N o L)
    {inb : ∀ a, (![o, 0] : Fin 2 → ℕ) a + S8x128.size a ≤ S256x128.size a} (x : S8x128.Idx) :
    v.readCov (Val := Elt Ideal) L (Rect.unit (s := S256x128) ![o, 0] S8x128.size inb).toLoadRect x
      = N ((Rect.unit (s := S256x128) ![o, 0] S8x128.size inb).emb x) := by
  rw [View.readCov_eq_canon']
  exact h.canon _ (row_of_group x rfl).1

end Cert.HeadValue

end
-- ==== Proof.LanesA.lean ====
/- The lanes' maxima, sums and picked-out scores `head` leaves at the first grid point, and the drafted tokens it
   stores there. -/
module

public import proofs.«01_k».proof.Proof.Gen.HeadIdeal.Frame
public import proofs.«01_k».proof.Proof.Group
public import proofs.«01_k».proof.Proof.Shadow
public import proofs.«01_k».proof.Proof.PointA
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32)

/-- The drafted tokens the first point stores, piece by piece. -/
abbrev idA : IVec S256x128 32 := View.canon (Val := Elt Ideal) (e := .i32) (kernelRun0_A.sl.HS6_8 (F := Ideal) c arg7 harg7 x6)

/-- The picked-out scores after the tile. -/
theorem A_hit :
    sout0_A_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = HNew (accA c arg3 harg3 arg4 harg4 arg5 harg5 arg6 harg6 arg11 arg12 arg13 x2 x3 x4 x5) (cA c arg1 harg1 arg2 harg2 x0 x1) k0_pay340 (idA c arg7 harg7 x6) (BitVec.ofNat 32 ↑(i 0)) := by
  unfold sout0_A_5
  rw [View.read_writes_eq_canon _ _ _ (scover0_A_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)]
  refine Over.whole (N := k0_pay340) (N' := k0_pay338) (L' := (kernelRun0_A c i arg1 harg1 arg2 harg2 arg3 harg3 arg4 harg4 arg5 harg5
    arg6 harg6 arg7 harg7 arg8 harg8 arg9 harg9 arg10 harg10 arg11 harg11 arg12 harg12 arg13 harg13 arg14 harg14 arg15 harg15 arg16 harg16
    arg17 harg17 arg18 harg18 hc0 hc1 x0 x1 x2 x3 x4 x5 x6).2.2.2.2.1) ?_
  repeat (first | exact Over.init | refine Over.step _ ?_ ?_)
  all_goals (intro hr hr' x; refine hit_group (h0 := ?_) (h1 := ?_) (h2 := ?_) (h3 := ?_) (hs := ?_) (hi := ?_) ?_ (cov8 arg18.view (kernelRun0_A.sl.HS7_8 (F := Ideal) c arg1 harg1 arg2 harg2 x0 x1)) (cov8 arg17.view (kernelRun0_A.sl.HS6_8 (F := Ideal) c arg7 harg7 x6)) (hr.load arg16.view) x; all_goals first | exact rfl | decide)

/-- The maxima after the tile. -/
theorem A_max :
    sout0_A_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = MNew (accA c arg3 harg3 arg4 harg4 arg5 harg5 arg6 harg6 arg11 arg12 arg13 x2 x3 x4 x5) (cA c arg1 harg1 arg2 harg2 x0 x1) k0_pay338 := by
  unfold sout0_A_3
  rw [View.read_writes_eq_canon _ _ _ (scover0_A_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)]
  refine Over.whole (N := k0_pay338) (N' := k0_pay338) (L' := (kernelRun0_A c i arg1 harg1 arg2 harg2 arg3 harg3 arg4 harg4 arg5 harg5
    arg6 harg6 arg7 harg7 arg8 harg8 arg9 harg9 arg10 harg10 arg11 harg11 arg12 harg12 arg13 harg13 arg14 harg14 arg15 harg15 arg16 harg16
    arg17 harg17 arg18 harg18 hc0 hc1 x0 x1 x2 x3 x4 x5 x6).2.2.2.2.1) ?_
  repeat (first | exact Over.init | refine Over.step _ ?_ ?_)
  all_goals (intro hr hr' x; refine max_group (h0 := ?_) (h1 := ?_) (h2 := ?_) (h3 := ?_) (hs := ?_) ?_ (cov8 arg18.view (kernelRun0_A.sl.HS7_8 (F := Ideal) c arg1 harg1 arg2 harg2 x0 x1)) (hr.load arg14.view) x; all_goals first | exact rfl | decide)

/-- The sums after the tile. -/
theorem A_sum :
    sout0_A_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = DNew (accA c arg3 harg3 arg4 harg4 arg5 harg5 arg6 harg6 arg11 arg12 arg13 x2 x3 x4 x5) (cA c arg1 harg1 arg2 harg2 x0 x1) k0_pay338 k0_pay339 := by
  unfold sout0_A_4
  rw [View.read_writes_eq_canon _ _ _ (scover0_A_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)]
  refine Over.whole (N := k0_pay339) (N' := k0_pay338) (L' := (kernelRun0_A c i arg1 harg1 arg2 harg2 arg3 harg3 arg4 harg4 arg5 harg5
    arg6 harg6 arg7 harg7 arg8 harg8 arg9 harg9 arg10 harg10 arg11 harg11 arg12 harg12 arg13 harg13 arg14 harg14 arg15 harg15 arg16 harg16
    arg17 harg17 arg18 harg18 hc0 hc1 x0 x1 x2 x3 x4 x5 x6).2.2.2.2.1) ?_
  repeat (first | exact Over.init | refine Over.step _ ?_ ?_)
  all_goals (intro hr hr' x; refine sum_group (h0 := ?_) (h1 := ?_) (h2 := ?_) (h3 := ?_) (hs := ?_) ?_ (cov8 arg18.view (kernelRun0_A.sl.HS7_8 (F := Ideal) c arg1 harg1 arg2 harg2 x0 x1)) (hr'.load arg14.view) (hr.load arg15.view) x; all_goals first | exact rfl | decide)

end Cert.HeadValue

end
-- ==== Proof.LanesB.lean ====
/- The lanes' maxima, sums and picked-out scores `head` leaves at a middle grid point, from those the point
   before left. -/
module

public import proofs.«01_k».proof.Proof.Gen.HeadIdeal.Frame
public import proofs.«01_k».proof.Proof.Group
public import proofs.«01_k».proof.Proof.PointB
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The picked-out scores after the tile. -/
theorem B_hit :
    sout0_B_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = HNew (accB c arg5 harg5 arg6 harg6 arg12 harg12 arg13 x4 x5 xs1) xs7 xs5 xs6 (BitVec.ofNat 32 ↑(i 0)) := by
  funext y
  unfold sout0_B_5
  rw [View.read_writes_eq_canon _ _ _ (scover0_B_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (scover0_B_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine hit_group (h0 := ?_) (h1 := ?_) (h2 := ?_) (h3 := ?_) (hs := ?_) (hi := ?_) ?_ (load8 harg18 xs7) (load8 harg17 xs6) (load8 harg16 xs5) x; all_goals first | exact rfl | decide)

/-- The maxima after the tile. -/
theorem B_max :
    sout0_B_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = MNew (accB c arg5 harg5 arg6 harg6 arg12 harg12 arg13 x4 x5 xs1) xs7 xs3 := by
  funext y
  unfold sout0_B_3
  rw [View.read_writes_eq_canon _ _ _ (scover0_B_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (scover0_B_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine max_group (h0 := ?_) (h1 := ?_) (h2 := ?_) (h3 := ?_) (hs := ?_)  ?_ (load8 harg18 xs7) (load8 harg14 xs3) x; all_goals first | exact rfl | decide)

/-- The sums after the tile. -/
theorem B_sum :
    sout0_B_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = DNew (accB c arg5 harg5 arg6 harg6 arg12 harg12 arg13 x4 x5 xs1) xs7 xs3 xs4 := by
  funext y
  unfold sout0_B_4
  rw [View.read_writes_eq_canon _ _ _ (scover0_B_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (scover0_B_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine sum_group (h0 := ?_) (h1 := ?_) (h2 := ?_) (h3 := ?_) (hs := ?_)  ?_ (load8 harg18 xs7) (load8 harg14 xs3) (load8 harg15 xs4) x; all_goals first | exact rfl | decide)

end Cert.HeadValue

end
-- ==== Proof.LanesC.lean ====
/- The lanes' maxima, sums and picked-out scores `head` leaves at the last grid point, from those the point
   before left. -/
module

public import proofs.«01_k».proof.Proof.Gen.HeadIdeal.Frame
public import proofs.«01_k».proof.Proof.Group
public import proofs.«01_k».proof.Proof.PointC
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The picked-out scores after the tile. -/
theorem C_hit :
    sout0_C_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = HNew (accC c arg5 harg5 arg6 harg6 arg12 harg12 arg13 x4 x5 xs1) xs7 xs5 xs6 (BitVec.ofNat 32 ↑(i 0)) := by
  funext y
  unfold sout0_C_5
  rw [View.read_writes_eq_canon _ _ _ (scover0_C_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (scover0_C_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine hit_group (h0 := ?_) (h1 := ?_) (h2 := ?_) (h3 := ?_) (hs := ?_) (hi := ?_) ?_ (load8 harg18 xs7) (load8 harg17 xs6) (load8 harg16 xs5) x; all_goals first | exact rfl | decide)

/-- The maxima after the tile. -/
theorem C_max :
    sout0_C_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = MNew (accC c arg5 harg5 arg6 harg6 arg12 harg12 arg13 x4 x5 xs1) xs7 xs3 := by
  funext y
  unfold sout0_C_3
  rw [View.read_writes_eq_canon _ _ _ (scover0_C_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (scover0_C_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine max_group (h0 := ?_) (h1 := ?_) (h2 := ?_) (h3 := ?_) (hs := ?_)  ?_ (load8 harg18 xs7) (load8 harg14 xs3) x; all_goals first | exact rfl | decide)

/-- The sums after the tile. -/
theorem C_sum :
    sout0_C_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = DNew (accC c arg5 harg5 arg6 harg6 arg12 harg12 arg13 x4 x5 xs1) xs7 xs3 xs4 := by
  funext y
  unfold sout0_C_4
  rw [View.read_writes_eq_canon _ _ _ (scover0_C_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine View.canon_apply_of_pieces _ _ ?_ y (scover0_C_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7 y)
  repeat' (first | exact fun _ h => absurd h List.not_mem_nil | refine List.forall_mem_cons.mpr ⟨?_, ?_⟩)
  all_goals (intro x; dsimp only; refine sum_group (h0 := ?_) (h1 := ?_) (h2 := ?_) (h3 := ?_) (hs := ?_)  ?_ (load8 harg18 xs7) (load8 harg14 xs3) (load8 harg15 xs4) x; all_goals first | exact rfl | decide)

end Cert.HeadValue

end
-- ==== Proof.Final.lean ====
/- What the `head` kernel stores after its last tile: the lanes' maxima and sums combined into one log-sum-exp per row,
   and the lanes' picked-out scores added up. -/
module

public import proofs.«01_k».proof.Proof.Gen.HeadIdeal.Skeleton
public import Idealize.ShloMosaic.Lib.ValueIdx
public import Idealize.ShloMosaic.Lib.Pipeline.Value
public import proofs.«01_k».proof.Proof.Online

@[expose] public section

set_option maxRecDepth 16384

noncomputable section

namespace Cert.HeadValue

open Cert.HeadIdeal Cert.HeadIdeal.Gen Idealize.ShloMosaic Idealize.ShloMosaic.ValueIdx

theorem neg_inf : Ideal.ofBits .f32 0xFF800000#32 = (⊥ : EReal) := by simp [Ideal.ofBits, Ideal.ieee]

theorem two_f32 : Ideal.ofBits .f32 0x40000000#32 = ((2 : ℝ) : EReal) := by
  simp [Ideal.ofBits, Ideal.ieee]
  rw [← EReal.coe_mul]
  norm_num

/-- An array's lane of a row. -/
abbrev lane (M : FVec Ideal S256x128 .f32) (R : Fin 256) (l : Fin 128) : EReal := M (ix2 (n0 := 256) (n1 := 128) R l)

/-- A row's log-sum-exp, from its lanes' maxima and sums. -/
def lseOut (M D : FVec Ideal S256x128 .f32) (R : Fin 256) : EReal :=
  Online.top (lane M R) + Ideal.div (Ideal.log (∑ l, lane D R l * Ideal.exp2 (lane M R l - Online.top (lane M R)))) (Ideal.log ((2 : ℝ) : EReal))

/-- The lane an index of a reduced row is lifted to. -/
theorem lift_lane (R : Fin 256) (l : Fin 128) :
    reduces_S256x128_S256.lift (ix1 (n := 256) R) l = ix2 (n0 := 256) (n1 := 128) R l := by
  funext a; match a with | 0 => rfl | 1 => rfl

/-- A row's one value, spread over its lanes, read at a lane. -/
theorem spread_at {h : S256x1.Broadcasts S256x128} (V : FVec Ideal S256x1 .f32) (y : S256x128.Idx) :
    broadcastTo S256x128 V h y = V (ix2 (n0 := 256) (n1 := 1) (y 0) 0) :=
  broadcastTo_apply _ _ y (ix2 (n0 := 256) (n1 := 1) (y 0) 0) (fun a => by match a with | 0 => rfl | 1 => rfl)

/-- The rows' values as a column. -/
theorem column_at {h : S256.ShapeCasts S256x1} (V : FVec Ideal S256 .f32) (R : Fin 256) :
    shapeCast S256x1 V h (ix2 (n0 := 256) (n1 := 1) R 0) = V (ix1 (n := 256) R) :=
  shapeCast_apply _ _ (ix2 (n0 := 256) (n1 := 1) R 0) (ix1 (n := 256) R) (by
    rw [Shape.rowMajor_val_two, Shape.rowMajor_val_one]; show R.val = R.val * 1 + 0; omega)

/-- A row's maximum over its lanes. -/
theorem row_max {h1 h2} (M : FVec Ideal S256x128 .f32) (R : Fin 256) :
    multiReduction .maximumf [1] S256 M 0xFF800000#32 reduces_S256x128_S256 h1 h2 (ix1 (n := 256) R) = Online.top (lane M R) := by
  refine (Ideal.multiReduction_maximumf_single (s := S256x128) (t := S256) (a := 1) _ _ _ _ _ _).trans ?_
  show (Finset.univ : Finset (Fin 128)).fold max (Ideal.ofBits .f32 0xFF800000#32) _ = _
  rw [neg_inf]
  unfold Online.top
  exact congrArg (Finset.univ.fold max ⊥ ·) (funext fun l => congrArg M (lift_lane R l))

/-- A row's sum over its lanes. -/
theorem row_sum {h1 h2} (M : FVec Ideal S256x128 .f32) (R : Fin 256) :
    multiReduction .add [1] S256 M 0x00000000#32 reduces_S256x128_S256 h1 h2 (ix1 (n := 256) R) = ∑ l, lane M R l := by
  refine (Ideal.multiReduction_add_single (s := S256x128) (t := S256) (a := 1) _ _ _ _ _ _).trans ?_
  exact Finset.sum_congr rfl fun l _ => congrArg M (lift_lane R l)

/-- The stored log-sum-exp. -/
theorem lse_at (M D : FVec Ideal S256x128 .f32) (y : S256x128.Idx) : k0_pay801 (F := Ideal) M D y = lseOut M D (y 0) := by
  unfold k0_pay801
  dsimp only
  rw [spread_at, shapeCast_self]
  refine congrArg₂ (· + ·) ((column_at _ _).trans (row_max M _)) ?_
  refine congrArg₂ (fun a b => Ideal.div (Ideal.log a) (Ideal.log b)) ?_ two_f32
  refine (column_at _ _).trans ((row_sum _ _).trans ?_)
  refine Finset.sum_congr rfl fun l _ => congrArg (fun a => lane D (y 0) l * Ideal.exp2 (lane M (y 0) l - a)) ?_
  rw [spread_at]
  exact (column_at _ _).trans (row_max M _)

/-- The stored picked-out score. -/
theorem hit_at (H : FVec Ideal S256x128 .f32) (y : S256x128.Idx) : k0_pay802 (F := Ideal) H y = ∑ l, lane H (y 0) l := by
  unfold k0_pay802
  dsimp only
  rw [spread_at, shapeCast_self]
  exact (column_at _ _).trans (row_sum H _)

end Cert.HeadValue

end
-- ==== Proof.LastC.lean ====
/- The log-sum-exp and the picked-out scores `head` stores at the last grid point. -/
module

public import proofs.«01_k».proof.Proof.Gen.HeadIdeal.Frame
public import proofs.«01_k».proof.Proof.LanesC
public import proofs.«01_k».proof.Proof.Final
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

/-- A scratch stored piece by piece, loaded whole. -/
theorem whole_read {sp : Space} {inb : ∀ a, (![0, 0] : Fin 2 → ℕ) a + S256x128.size a ≤ S256x128.size a} (v : View sig .tc sp S256x128 .f32)
    (L : List (View.Piece (Elt Ideal) S256x128 .f32)) {G : FVec Ideal S256x128 .f32} (h : View.canon L = G) :
    v.readCov (Val := Elt Ideal) L (Rect.unit (s := S256x128) ![0, 0] S256x128.size inb).toLoadRect = G := by
  rw [View.readCov_eq_canon', ← h]
  funext x
  refine congrArg (View.canon L) (funext fun a => Fin.ext ?_)
  match a with
  | 0 => show 0 + 1 * (x 0).val = (x 0).val; omega
  | 1 => show 0 + 1 * (x 1).val = (x 1).val; omega

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : ¬cond0_0 i) (hc1 :
  cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32) (xs1 : Vec Ideal S256x5120 .bf16) (xs3 : Vec Ideal S256x128 .f32) (xs4
  : Vec Ideal S256x128 .f32) (xs5 : Vec Ideal S256x128 .f32) (xs6 : Vec Ideal S256x128 .i32) (xs7 : Vec Ideal S256x128 .f32)

/-- The maxima as stored, piece by piece. -/
theorem C_max_stored : View.canon (kernelRun0_C (F := Ideal)
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7).2.2.2.2.1
      = MNew (accC c arg5 harg5 arg6 harg6 arg12 harg12 arg13 x4 x5 xs1) xs7 xs3 := by
  have e := C_max
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
  unfold sout0_C_3 at e
  rw [View.read_writes_eq_canon _ _ _ (scover0_C_3
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)] at e
  exact e

/-- The sums as stored. -/
theorem C_sum_stored : View.canon (kernelRun0_C (F := Ideal)
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7).2.2.2.2.2.1
      = DNew (accC c arg5 harg5 arg6 harg6 arg12 harg12 arg13 x4 x5 xs1) xs7 xs3 xs4 := by
  have e := C_sum
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
  unfold sout0_C_4 at e
  rw [View.read_writes_eq_canon _ _ _ (scover0_C_4
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)] at e
  exact e

/-- The picked-out scores as stored. -/
theorem C_hit_stored : View.canon (kernelRun0_C (F := Ideal)
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7).2.2.2.2.2.2.1
      = HNew (accC c arg5 harg5 arg6 harg6 arg12 harg12 arg13 x4 x5 xs1) xs7 xs5 xs6 (BitVec.ofNat 32 ↑(i 0)) := by
  have e := C_hit
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
  unfold sout0_C_5 at e
  rw [View.read_writes_eq_canon _ _ _ (scover0_C_5
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)] at e
  exact e

/-- The log-sum-exp of each row. -/
theorem C_lse :
    out0_C_8
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = fun y => lseOut (MNew (accC c arg5 harg5 arg6 harg6 arg12 harg12 arg13 x4 x5 xs1) xs7 xs3) (DNew (accC c arg5 harg5 arg6 harg6 arg12 harg12 arg13 x4 x5 xs1) xs7 xs3 xs4) (y 0) := by
  funext y
  unfold out0_C_8
  rw [View.read_writes_eq_canon _ _ _ (cover0_C_8
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine (congrFun (View.canon_unit_zero (by funext a; match a with | 0 => rfl | 1 => rfl) _ _) y).trans ?_
  refine (lse_at _ _ y).trans ?_
  refine congrArg₂ (fun a b => lseOut a b (y 0)) (whole_read (inb := inb_S256x128_S256x128_0_0) arg14.view _ (C_max_stored
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)) ?_
  exact whole_read (inb := inb_S256x128_S256x128_0_0) arg15.view _ (C_sum_stored
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)

/-- The picked-out score of each row. -/
theorem C_s2x :
    out0_C_9
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7
      = fun y => ∑ l, lane (HNew (accC c arg5 harg5 arg6 harg6 arg12 harg12 arg13 x4 x5 xs1) xs7 xs5 xs6 (BitVec.ofNat 32 ↑(i 0))) (y 0) l := by
  funext y
  unfold out0_C_9
  rw [View.read_writes_eq_canon _ _ _ (cover0_C_9
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7)]
  refine (congrFun (View.canon_unit_zero (by funext a; match a with | 0 => rfl | 1 => rfl) _ _) y).trans ?_
  refine (hit_at _ y).trans ?_
  exact congrArg (fun a => ∑ l, lane a (y 0) l) (whole_read (inb := inb_S256x128_S256x128_0_0) arg16.view _ (C_hit_stored
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6 xs1 xs3 xs4 xs5 xs6
    xs7))

end Cert.HeadValue

end
-- ==== Proof.Ids.lean ====
/- The drafted tokens the first grid point spreads over its scratch. -/
module

public import proofs.«01_k».proof.Proof.Gen.HeadIdeal.Frame
public import proofs.«01_k».proof.Proof.Group
public import proofs.«01_k».proof.Proof.Shadow
public import proofs.«01_k».proof.Proof.PointA
public import Idealize.ShloMosaic.Lib.Tactic

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

/-- The drafted token of a row, `-1` in the rows of the last position. -/
def IN (D : IVec S7x32 32) (y : S256x128.Idx) : BitVec 32 :=
  if h : (y 0).val < 224 then D (ix2 (n0 := 7) (n1 := 32) ⟨(y 0).val / 32, by omega⟩ ⟨(y 0).val % 32, Nat.mod_lt _ (by norm_num)⟩) else 4294967295#32

/-- One position's drafted tokens spread over the lanes, read at an index. -/
theorem ids_at (T : IVec S1x32 32) (b : Fin 32) (l : Fin 128) :
    k0_pay359 (F := Ideal) T (ix2 (n0 := 32) (n1 := 128) b l) = T (ix2 (n0 := 1) (n1 := 32) 0 b) := by
  unfold k0_pay359
  dsimp only
  rw [shapeCast_self]
  refine (extractStridedSlice_apply _ _ _ _ (ix2 (n0 := 128) (n1 := 128) ⟨b.val, by omega⟩ l) (fun a => by
    match a with
    | 0 => show b.val = 0 + b.val; omega
    | 1 => show l.val = 0 + l.val; omega)).trans ?_
  refine (transpose_apply _ _ _ _ (ix2 (n0 := 128) (n1 := 128) l ⟨b.val, by omega⟩) (fun a => by
    match a with
    | 0 => rfl
    | 1 => rfl)).trans ?_
  refine (broadcastTo_apply _ _ _ (ix2 (n0 := 1) (n1 := 128) 0 ⟨b.val, by omega⟩) (fun a => by
    match a with
    | 0 => rfl
    | 1 => rfl)).trans ?_
  rw [shapeCast_self, shapeCast_self]
  exact concatenate_pair_apply_left (t := S1x128) (s₁ := S1x32) (s₂ := S1x96) 1 T _ _ _ rfl (ix2 (n0 := 1) (n1 := 32) 0 b)
    (fun a => by match a with | 0 => rfl | 1 => rfl)

/-- The 32 rows of drafted tokens the body stores at row `o`. -/
theorem id_piece {sp : Space} {M : Memref sig .tc sp S7x32 .i32} (hM : M.IsWhole) (D : IVec S7x32 32) {o : ℕ}
    {inb : ∀ a, (![o / 32, 0] : Fin 2 → ℕ) a + S1x32.size a ≤ S7x32.size a} {V : IVec S32x128 32}
    {inb' : ∀ a, (![o, 0] : Fin 2 → ℕ) a + S32x128.size a ≤ S256x128.size a} (ho : o % 32 = 0) (hs : o < 224)
    (hV : V = k0_pay359 (F := Ideal) (M.view.readAt (Elt Ideal) (Rect.unit (s := S7x32) ![o / 32, 0] S1x32.size inb).toLoadRect (hM.unread D)))
    (x : S32x128.Idx) : V x = IN D ((Rect.unit (s := S256x128) ![o, 0] S32x128.size inb').emb x) := by
  have hx0 : (x 0).val < 32 := (x 0).isLt
  have e0 : (((Rect.unit (s := S256x128) ![o, 0] S32x128.size inb').emb x) 0).val = o + 1 * (x 0).val := rfl
  rw [hV, eq_ix2 x]
  refine (ids_at _ (x 0) (x 1)).trans ?_
  rw [View.readAt_eq_ld, hM.read_unread, ← eq_ix2 x]
  unfold IN
  rw [dif_pos (by rw [e0]; omega)]
  refine congrArg D (funext fun a => Fin.ext ?_)
  match a with
  | 0 => show o / 32 + 1 * 0 = (o + 1 * (x 0).val) / 32; omega
  | 1 => show 0 + 1 * (x 0).val = (o + 1 * (x 0).val) % 32; omega

/-- The 32 rows it stores for the last position. -/
theorem no_id_piece (D : IVec S7x32 32) {V : IVec S32x128 32} {inb' : ∀ a, (![224, 0] : Fin 2 → ℕ) a + S32x128.size a ≤ S256x128.size a}
    (hV : V = k0_pay361) (x : S32x128.Idx) : V x = IN D ((Rect.unit (s := S256x128) ![224, 0] S32x128.size inb').emb x) := by
  have e0 : (((Rect.unit (s := S256x128) ![224, 0] S32x128.size inb').emb x) 0).val = 224 + 1 * (x 0).val := rfl
  unfold IN
  rw [dif_neg (by rw [e0]; omega), hV]
  unfold k0_pay361
  rw [shapeCast_self]
  rfl

variable
  (c : Dev nD) (i : grid0.Coords) (arg1 : Memref sig .tc .smem S1 .f32) (harg1 : arg1.IsWhole) (arg2 : Memref sig .tc .vmem S1x32 .f32) (harg2 :
  arg2.IsWhole) (arg3 : Memref sig .tc .vmem S32x8x5120 .bf16) (harg3 : arg3.IsWhole) (arg4 : Memref sig .tc .vmem S1x5120 .f32) (harg4 :
  arg4.IsWhole) (arg5 : Memref sig .tc .vmem S512x2560 .i8) (harg5 : arg5.IsWhole) (arg6 : Memref sig .tc .vmem S320x512 .fp8e4m3) (harg6 :
  arg6.IsWhole) (arg7 : Memref sig .tc .vmem S7x32 .i32) (harg7 : arg7.IsWhole) (arg8 : Memref sig .tc .vmem S256x512 .f32) (harg8 : arg8.IsWhole)
  (arg9 : Memref sig .tc .vmem S256x128 .f32) (harg9 : arg9.IsWhole) (arg10 : Memref sig .tc .vmem S256x128 .f32) (harg10 : arg10.IsWhole) (arg11 :
  Memref sig .tc .vmem S256x5120 .f32) (harg11 : arg11.IsWhole) (arg12 : Memref sig .tc .vmem S256x5120 .bf16) (harg12 : arg12.IsWhole) (arg13 :
  Memref sig .tc .vmem S320x512 .f32) (harg13 : arg13.IsWhole) (arg14 : Memref sig .tc .vmem S256x128 .f32) (harg14 : arg14.IsWhole) (arg15 : Memref
  sig .tc .vmem S256x128 .f32) (harg15 : arg15.IsWhole) (arg16 : Memref sig .tc .vmem S256x128 .f32) (harg16 : arg16.IsWhole) (arg17 : Memref sig .tc
  .vmem S256x128 .i32) (harg17 : arg17.IsWhole) (arg18 : Memref sig .tc .vmem S256x128 .f32) (harg18 : arg18.IsWhole) (hc0 : cond0_0 i) (hc1 :
  ¬cond0_1 i) (x0 : Vec Ideal S1 .f32) (x1 : Vec Ideal S1x32 .f32) (x2 : Vec Ideal S32x8x5120 .bf16) (x3 : Vec Ideal S1x5120 .f32) (x4 : Vec Ideal
  S512x2560 .i8) (x5 : Vec Ideal S320x512 .fp8e4m3) (x6 : Vec Ideal S7x32 .i32)

/-- The drafted tokens the first point stores. -/
theorem id_eq : View.canon (Val := Elt Ideal) (e := .i32) (kernelRun0_A.sl.HS6_8 (F := Ideal) c arg7 harg7 x6) = IN x6 := by
  funext y
  refine View.canon_apply_of_pieces _ _ ?_ y
    (View.cover_of_tiledL (kernelRun0_A.sl.HS6_8 (F := Ideal) c arg7 harg7 x6) S32x128.size (by sl_kernel_rfl) y)
  refine List.forall_mem_cons.mpr ⟨fun x => no_id_piece (inb' := inb_S256x128_S32x128_224_0) x6 rfl x, ?_⟩
  repeat' (first | exact fun _ h => absurd h List.not_mem_nil | refine List.forall_mem_cons.mpr ⟨?_, ?_⟩)
  all_goals (intro x; dsimp only; refine id_piece (inb := ?_) harg7 x6 ?_ ?_ ?_ x; rotate_left 3; exact rfl; all_goals decide)

/-- The scratch of drafted tokens it leaves. -/
theorem A_ids :
    sout0_A_6
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6
      = IN x6 := by
  refine Eq.trans ?_ (id_eq c arg7 harg7 x6)
  unfold sout0_A_6
  exact View.read_writes_eq_canon _ _ _ (scover0_A_6
    c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 hc0 hc1 x0 x1 x2 x3 x4 x5 x6)

end Cert.HeadValue

end
-- ==== Proof.LaneSweep.lean ====
/- The lanes' scratch over the `head` kernel's grid: what each point leaves there, from what the point before left and
   the tile of scores it stores. -/
module

public import proofs.«01_k».proof.Proof.Sweep
public import proofs.«01_k».proof.Proof.LaneMath
public import proofs.«01_k».proof.Proof.LanesA
public import proofs.«01_k».proof.Proof.LanesB
public import proofs.«01_k».proof.Proof.LastC
public import proofs.«01_k».proof.Proof.Ids

@[expose] public section

set_option maxRecDepth 16384
set_option maxHeartbeats 400000

noncomputable section

namespace Cert.HeadValue

open Cert.HeadIdeal Cert.HeadIdeal.Gen Idealize.ShloMosaic Idealize.ShloMosaic.TcCoe Idealize.ShloMosaic.ValueIdx Idealize.SL.Sem

variable (m : (ℓ : Loc nD τ sig) → Buf (Elt Ideal) ℓ) (c : Dev nD)

/-- The tile of scores point `n` stores. -/
abbrev tileAt (n : ℕ) (hn : n < cfg0.N) : FVec Ideal S256x512 .f32 := (outsAt0 m c n hn).1

/-- The lanes' maxima after point `n`. -/
abbrev maxAt (n : ℕ) (hn : n < cfg0.N) : FVec Ideal S256x128 .f32 := (outsAt0 m c n hn).2.2.2.2.1

/-- Their sums. -/
abbrev sumAt (n : ℕ) (hn : n < cfg0.N) : FVec Ideal S256x128 .f32 := (outsAt0 m c n hn).2.2.2.2.2.1

/-- Their picked-out scores. -/
abbrev hitAt (n : ℕ) (hn : n < cfg0.N) : FVec Ideal S256x128 .f32 := (outsAt0 m c n hn).2.2.2.2.2.2.1

/-- The rows' drafted tokens. -/
abbrev idsAt (n : ℕ) (hn : n < cfg0.N) : IVec S256x128 32 := (outsAt0 m c n hn).2.2.2.2.2.2.2.1

/-- A grid point's coordinate is its number. -/
theorem coord_val : ∀ t : Fin cfg0.N, (grid0.coords t 0).val = t.val := (by decide +kernel : ∀ t : Fin grid0.N, _)

/-- The first point. -/
theorem first_lanes (t : Fin cfg0.N) (h0 : t.val % 148 = 0) (h1 : ¬t.val % 148 = 147) :
    maxAt m c t.val t.isLt = MZ (tileAt m c t.val t.isLt) k0_pay338
    ∧ sumAt m c t.val t.isLt = DZ (tileAt m c t.val t.isLt) k0_pay338 k0_pay339
    ∧ hitAt m c t.val t.isLt = HZ (tileAt m c t.val t.isLt) k0_pay340 (IN (iblk m c 6 t)) (BitVec.ofNat 32 t.val)
    ∧ idsAt m c t.val t.isLt = IN (iblk m c 6 t) := by
  have e := outsAt0_A m c t h0 h1
  have ez := (congrArg (fun p => p.1) e).trans (A_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
  refine ⟨((congrArg (fun p => p.2.2.2.2.1) e).trans (A_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))).trans (MNew_z ez _), ((congrArg (fun p => p.2.2.2.2.2.1) e).trans (A_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))).trans (DNew_z ez _ _), ((congrArg (fun p => p.2.2.2.2.2.2.1) e).trans (A_hit c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))).trans ((HNew_z ez _ _ _).trans ?_), (congrArg (fun p => p.2.2.2.2.2.2.2.1) e).trans (A_ids c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))⟩
  rw [coord_val]
  exact congrArg (fun a => HZ (tileAt m c t.val t.isLt) k0_pay340 a (BitVec.ofNat 32 t.val)) (id_eq c (ms0_6 t) (hs0_6 t) (iblk m c 6 t))

/-- A further point. -/
theorem next_lanes (n : ℕ) (hn : n + 1 < cfg0.N) :
    maxAt m c (n + 1) hn = MZ (tileAt m c (n + 1) hn) (maxAt m c n (by omega))
    ∧ sumAt m c (n + 1) hn = DZ (tileAt m c (n + 1) hn) (maxAt m c n (by omega)) (sumAt m c n (by omega))
    ∧ hitAt m c (n + 1) hn = HZ (tileAt m c (n + 1) hn) (hitAt m c n (by omega)) (idsAt m c n (by omega)) (BitVec.ofNat 32 (n + 1))
    ∧ idsAt m c (n + 1) hn = idsAt m c n (by omega) := by
  have hN : n + 1 < 148 := lt_of_lt_of_eq hn N_0
  have hv : (grid0.coords ⟨n + 1, hn⟩ 0).val = n + 1 := coord_val ⟨n + 1, hn⟩
  have h0 : ¬(⟨n + 1, hn⟩ : Fin cfg0.N).val % 148 = 0 := by show ¬(n + 1) % 148 = 0; omega
  by_cases h1 : (⟨n + 1, hn⟩ : Fin cfg0.N).val % 148 = 147
  · have e := outsAt0_C m c ⟨n + 1, hn⟩ h0 h1
    have ez := (congrArg (fun p => p.1) e).trans (C_z c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))
    refine ⟨((congrArg (fun p => p.2.2.2.2.1) e).trans (C_max c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans (MNew_z ez _), ((congrArg (fun p => p.2.2.2.2.2.1) e).trans (C_sum c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans (DNew_z ez _ _), ((congrArg (fun p => p.2.2.2.2.2.2.1) e).trans (C_hit c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans ((HNew_z ez _ _ _).trans ?_), congrArg (fun p => p.2.2.2.2.2.2.2.1) e⟩
    rw [hv]
  · have e := outsAt0_B m c ⟨n + 1, hn⟩ h0 h1
    have ez := (congrArg (fun p => p.1) e).trans (B_z c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))
    refine ⟨((congrArg (fun p => p.2.2.2.2.1) e).trans (B_max c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans (MNew_z ez _), ((congrArg (fun p => p.2.2.2.2.2.1) e).trans (B_sum c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans (DNew_z ez _ _), ((congrArg (fun p => p.2.2.2.2.2.2.1) e).trans (B_hit c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans ((HNew_z ez _ _ _).trans ?_), congrArg (fun p => p.2.2.2.2.2.2.2.1) e⟩
    rw [hv]

/-- The last point's two row results, from the lanes it leaves. -/
theorem last_rows (n : ℕ) (hn : n + 1 < cfg0.N) (h1 : (n + 1) % 148 = 147) :
    (outsAt0 m c (n + 1) hn).2.1 = (fun y => lseOut (maxAt m c (n + 1) hn) (sumAt m c (n + 1) hn) (y 0))
    ∧ (outsAt0 m c (n + 1) hn).2.2.1 = (fun y => ∑ l, lane (hitAt m c (n + 1) hn) (y 0) l) := by
  have h0 : ¬(⟨n + 1, hn⟩ : Fin cfg0.N).val % 148 = 0 := by show ¬(n + 1) % 148 = 0; omega
  have e := outsAt0_C m c ⟨n + 1, hn⟩ h0 h1
  have em := (congrArg (fun p => p.2.2.2.2.1) e).trans (C_max c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))
  have es := (congrArg (fun p => p.2.2.2.2.2.1) e).trans (C_sum c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))
  have eh := (congrArg (fun p => p.2.2.2.2.2.2.1) e).trans (C_hit c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))
  refine ⟨((congrArg (fun p => p.2.1) e).trans (C_lse c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans ?_, ((congrArg (fun p => p.2.2.1) e).trans (C_s2x c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((outsAt0 m c n (by omega)).2.2.2.1) ((outsAt0 m c n (by omega)).2.2.2.2.1) ((outsAt0 m c n (by omega)).2.2.2.2.2.1) ((outsAt0 m c n (by omega)).2.2.2.2.2.2.1) ((outsAt0 m c n (by omega)).2.2.2.2.2.2.2.1) ((outsAt0 m c n (by omega)).2.2.2.2.2.2.2.2))).trans ?_⟩
  · funext y; exact congrArg₂ (fun a b => lseOut a b (y 0)) em.symm es.symm
  · funext y; exact congrArg (fun a => ∑ l, lane a (y 0) l) eh.symm

end Cert.HeadValue

end
-- ==== Proof.Blocks.lean ====
/- The blocks the `head` kernel's grid points read, as entries of the arguments. -/
module

public import proofs.«01_k».proof.Proof.Gen.HeadIdeal.Frame
public import proofs.«01_k».proof.Proof.Gen.HeadIdeal.Value
public import Idealize.ShloMosaic.Lib.StableHlo.Run
public import Idealize.ShloMosaic.Lib.StableHlo.RunClose
public import Idealize.ShloMosaic.Lib.ValueIdx

@[expose] public section

set_option maxRecDepth 16384

noncomputable section

namespace Cert.HeadValue

open Cert.HeadIdeal Cert.HeadIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The temperatures as the kernel takes them: a row. -/
theorem V_temps : V m c main_v0 = shapeCast S1x32 (m ((c : Thread nD τ).loc main_arg5)) shapeCasts_S32_S1x32 := by
  show StableHlo.after hostOps0 (fun b => m (c, b)) (Proc.devRef .tc main_v0) = _
  simp only [hostOps0]
  after_results <;> rfl

/-- The norm's weights as the kernel takes them: a row. -/
theorem V_norm : V m c main_v1 = shapeCast S1x5120 (m ((c : Thread nD τ).loc main_arg1)) shapeCasts_S5120_S1x5120 := by
  show StableHlo.after hostOps0 (fun b => m (c, b)) (Proc.devRef .tc main_v1) = _
  simp only [hostOps0]
  after_results <;> rfl

/-- The block scales as the kernel takes them: transposed. -/
theorem V_scales : V m c main_v2
    = transpose S320x75776 [1, 0] (m ((c : Thread nD τ).loc main_arg3)) transposes_S75776x320_S320x75776_1_0 := by
  show StableHlo.after hostOps0 (fun b => m (c, b)) (Proc.devRef .tc main_v2) = _
  simp only [hostOps0]
  after_results <;> rfl

/-- The drafted tokens as the kernel takes them: transposed. -/
theorem V_ids : V m c main_v3 = transpose S7x32 [1, 0] (m ((c : Thread nD τ).loc main_arg6)) transposes_S32x7_S7x32_1_0 := by
  show StableHlo.after hostOps0 (fun b => m (c, b)) (Proc.devRef .tc main_v3) = _
  simp only [hostOps0]
  after_results <;> rfl

theorem idx0 : ∀ t : Fin cfg0.N, win0_0.index t (0 : Fin 1) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

variable (t : Fin cfg0.N)

theorem t_lt : t.val < 148 := lt_of_lt_of_eq t.isLt N_0

/-- The global scale. -/
theorem blk0 (y : S1.Idx) : iblk m c 0 t y = m ((c : Thread nD τ).loc main_arg4) y := by
  show V m c main_arg4 (((cfg0.win 0).blk t).view.emb y) = _
  rw [V_main_arg4]
  refine congrArg (m ((c : Thread nD τ).loc main_arg4)) (funext fun a => Fin.ext ?_)
  match a with
  | 0 => show win0_0.index t (0 : Fin 1) * 1 + 1 * (y 0).val = _; rw [idx0]; omega

/-- The temperatures. -/
theorem blk1 (b : Fin 32) : iblk m c 1 t (ix2 (n0 := 1) (n1 := 32) 0 b) = m ((c : Thread nD τ).loc main_arg5) (ix1 (n := 32) b) := by
  show V m c main_v0 (((cfg0.win 1).blk t).view.emb (ix2 (n0 := 1) (n1 := 32) 0 b)) = _
  obtain ⟨e0, e1⟩ := idx1 t
  have he : ((cfg0.win 1).blk t).view.emb (ix2 (n0 := 1) (n1 := 32) 0 b) = ix2 (n0 := 1) (n1 := 32) 0 b := funext fun a => Fin.ext (by
    match a with
    | 0 => show win0_1.index t (0 : Fin 2) * 1 + 1 * 0 = _; rw [e0]; rfl
    | 1 => show win0_1.index t (1 : Fin 2) * 32 + 1 * b.val = b.val; rw [e1]; omega)
  rw [V_temps, he]
  exact shapeCast_apply _ _ _ _ (((Shape.rowMajor_val_one (ix1 (n := 32) b)).trans (by show b.val = 0 * 32 + b.val; omega)).trans
    (Shape.rowMajor_val_two (ix2 (n0 := 1) (n1 := 32) 0 b)).symm)

/-- The activations before the norm. -/
theorem blk2 (y : S32x8x5120.Idx) : iblk m c 2 t y = m ((c : Thread nD τ).loc main_arg0) y := by
  show V m c main_arg0 (((cfg0.win 2).blk t).view.emb y) = _
  rw [V_main_arg0]
  obtain ⟨e0, e1, e2⟩ := idx2 t
  refine congrArg (m ((c : Thread nD τ).loc main_arg0)) (funext fun a => Fin.ext ?_)
  match a with
  | 0 => show win0_2.index t (0 : Fin 3) * 32 + 1 * (y 0).val = _; rw [e0]; omega
  | 1 => show win0_2.index t (1 : Fin 3) * 8 + 1 * (y 1).val = _; rw [e1]; omega
  | 2 => show win0_2.index t (2 : Fin 3) * 5120 + 1 * (y 2).val = _; rw [e2]; omega

/-- The norm's weights. -/
theorem blk3 (n : Fin 5120) : iblk m c 3 t (ix2 (n0 := 1) (n1 := 5120) 0 n) = m ((c : Thread nD τ).loc main_arg1) (ix1 (n := 5120) n) := by
  show V m c main_v1 (((cfg0.win 3).blk t).view.emb (ix2 (n0 := 1) (n1 := 5120) 0 n)) = _
  obtain ⟨e0, e1⟩ := idx3 t
  have he : ((cfg0.win 3).blk t).view.emb (ix2 (n0 := 1) (n1 := 5120) 0 n) = ix2 (n0 := 1) (n1 := 5120) 0 n := funext fun a => Fin.ext (by
    match a with
    | 0 => show win0_3.index t (0 : Fin 2) * 1 + 1 * 0 = _; rw [e0]; rfl
    | 1 => show win0_3.index t (1 : Fin 2) * 5120 + 1 * n.val = n.val; rw [e1]; omega)
  rw [V_norm, he]
  exact shapeCast_apply _ _ _ _ (((Shape.rowMajor_val_one (ix1 (n := 5120) n)).trans (by show n.val = 0 * 5120 + n.val; omega)).trans
    (Shape.rowMajor_val_two (ix2 (n0 := 1) (n1 := 5120) 0 n)).symm)

/-- A tile of packed weights: 512 rows of them. -/
theorem blk4 (q : Fin 512) (j : Fin 2560) : iblk m c 4 t (ix2 (n0 := 512) (n1 := 2560) q j)
    = m ((c : Thread nD τ).loc main_arg2) (ix2 (n0 := 75776) (n1 := 2560) ⟨512 * t.val + q.val, by have := t_lt t; omega⟩ j) := by
  show V m c main_arg2 (((cfg0.win 4).blk t).view.emb (ix2 (n0 := 512) (n1 := 2560) q j)) = _
  rw [V_main_arg2]
  obtain ⟨e0, e1⟩ := idx4 t
  refine congrArg (m ((c : Thread nD τ).loc main_arg2)) (funext fun a => Fin.ext ?_)
  match a with
  | 0 => show win0_4.index t (0 : Fin 2) * 512 + 1 * q.val = 512 * t.val + q.val; rw [e0]; omega
  | 1 => show win0_4.index t (1 : Fin 2) * 2560 + 1 * j.val = j.val; rw [e1]; omega

/-- A tile's block scales. -/
theorem blk5 (g : Fin 320) (q : Fin 512) : iblk m c 5 t (ix2 (n0 := 320) (n1 := 512) g q)
    = m ((c : Thread nD τ).loc main_arg3) (ix2 (n0 := 75776) (n1 := 320) ⟨512 * t.val + q.val, by have := t_lt t; omega⟩ g) := by
  show V m c main_v2 (((cfg0.win 5).blk t).view.emb (ix2 (n0 := 320) (n1 := 512) g q)) = _
  obtain ⟨e0, e1⟩ := idx5 t
  have he : ((cfg0.win 5).blk t).view.emb (ix2 (n0 := 320) (n1 := 512) g q)
      = ix2 (n0 := 320) (n1 := 75776) g ⟨512 * t.val + q.val, by have := t_lt t; omega⟩ := funext fun a => Fin.ext (by
    match a with
    | 0 => show win0_5.index t (0 : Fin 2) * 320 + 1 * g.val = g.val; rw [e0]; omega
    | 1 => show win0_5.index t (1 : Fin 2) * 512 + 1 * q.val = 512 * t.val + q.val; rw [e1]; omega)
  rw [V_scales, he]
  exact transpose_apply _ _ _ _ _ (fun b => by match b with | 0 => rfl | 1 => rfl)

/-- The drafted tokens. -/
theorem blk6 (s : Fin 7) (b : Fin 32) : iblk m c 6 t (ix2 (n0 := 7) (n1 := 32) s b) = m ((c : Thread nD τ).loc main_arg6) (ix2 (n0 := 32) (n1 := 7) b s) := by
  show V m c main_v3 (((cfg0.win 6).blk t).view.emb (ix2 (n0 := 7) (n1 := 32) s b)) = _
  obtain ⟨e0, e1⟩ := idx6 t
  have he : ((cfg0.win 6).blk t).view.emb (ix2 (n0 := 7) (n1 := 32) s b) = ix2 (n0 := 7) (n1 := 32) s b := funext fun a => Fin.ext (by
    match a with
    | 0 => show win0_6.index t (0 : Fin 2) * 7 + 1 * s.val = s.val; rw [e0]; omega
    | 1 => show win0_6.index t (1 : Fin 2) * 32 + 1 * b.val = b.val; rw [e1]; omega)
  rw [V_ids, he]
  exact transpose_apply _ _ _ _ _ (fun b => by match b with | 0 => rfl | 1 => rfl)

end Cert.HeadValue

end
-- ==== Proof.Sum.lean ====
/- The `head` kernel's product over the model axis, reordered as the reference computes it: the even columns against the
   low four-bit codes, then the odd columns against the high ones. -/
module

public import proofs.«01_k».proof.Proof.Step

@[expose] public section

set_option maxRecDepth 16384

noncomputable section

namespace Cert.HeadValue

open Cert.HeadIdeal Cert.HeadIdeal.Gen Idealize.ShloMosaic Idealize.ShloMosaic.TcCoe Idealize.ShloMosaic.ValueIdx

/-- A row of activations against a row of packed weights and their block scales. -/
def dotRow (h : ℕ → EReal) (w : ℕ → BitVec 8) (s : ℕ → EReal) : EReal :=
  (∑ j ∈ Finset.range 2560, h (2 * j) * (rdec (IntOp.andi ((w j).setWidth 32) 15#32) * s (j / 8)))
    + ∑ j ∈ Finset.range 2560, h (2 * j + 1) * (rdec (IntOp.shrsi .host ((w j).setWidth 32) 4#32) * s (j / 8))

/-- A sum over twice as many terms, the even ones then the odd ones. -/
theorem sum_even_odd (f : ℕ → EReal) (n : ℕ) :
    ∑ i ∈ Finset.range (2 * n), f i = (∑ j ∈ Finset.range n, f (2 * j)) + ∑ j ∈ Finset.range n, f (2 * j + 1) := by
  induction n with
  | zero => simp
  | succ n ih =>
    rw [show 2 * (n + 1) = 2 * n + 1 + 1 from by ring, Finset.sum_range_succ, Finset.sum_range_succ, ih,
      Finset.sum_range_succ, Finset.sum_range_succ]
    rw [add_assoc, add_assoc, add_assoc]
    congr 1
    rw [← add_assoc, ← add_assoc, add_comm (f (2 * n))]

/-- A sum by consecutive blocks of `b` terms. -/
theorem sum_blocks (f : ℕ → EReal) (b n : ℕ) :
    ∑ k ∈ Finset.range n, ∑ r ∈ Finset.range b, f (b * k + r) = ∑ j ∈ Finset.range (b * n), f j := by
  induction n with
  | zero => simp
  | succ n ih => rw [Finset.sum_range_succ, ih, Nat.mul_succ, Finset.sum_range_add]

variable (H : FVec Ideal S256x5120 .bf16) (W : Vec Ideal S512x2560 .i8) (S : Vec Ideal S320x512 .f32)

/-- One step's contribution, the low codes then the high ones. -/
theorem term_split (k R q : ℕ) : term H W S k R q
    = (∑ r ∈ Finset.range 128, atN (0 : EReal) H R (2 * (128 * k + r))
        * (rdec (IntOp.andi ((atN (0#8) W q (128 * k + r)).setWidth 32) 15#32) * atN (0 : EReal) S ((128 * k + r) / 8) q))
      + ∑ r ∈ Finset.range 128, atN (0 : EReal) H R (2 * (128 * k + r) + 1)
        * (rdec (IntOp.shrsi .host ((atN (0#8) W q (128 * k + r)).setWidth 32) 4#32) * atN (0 : EReal) S ((128 * k + r) / 8) q) := by
  unfold term
  rw [Finset.sum_fin_eq_sum_range, Finset.sum_congr rfl (g := fun i => atN (0 : EReal) H R (256 * k + i)
    * (kdec (kcode i (atN (0#8) W q (128 * k + i / 2))) * atN (0 : EReal) S (16 * k + i / 16) q))
    (fun i hi => dif_pos (Finset.mem_range.mp hi)), show Finset.range 256 = Finset.range (2 * 128) from rfl, sum_even_odd]
  refine congrArg₂ (· + ·) (Finset.sum_congr rfl fun r hr => ?_) (Finset.sum_congr rfl fun r hr => ?_)
  · have hr := Finset.mem_range.mp hr
    rw [kcode_even r hr, kdec_eq _ (low_lt _), show 256 * k + 2 * r = 2 * (128 * k + r) from by ring,
      show 2 * r / 2 = r from by omega, show 16 * k + 2 * r / 16 = (128 * k + r) / 8 from by omega]
  · have hr := Finset.mem_range.mp hr
    rw [kcode_odd r hr, kdec_eq _ (high_lt _), high_host, show 256 * k + (2 * r + 1) = 2 * (128 * k + r) + 1 from by ring,
      show (2 * r + 1) / 2 = r from by omega, show 16 * k + (2 * r + 1) / 16 = (128 * k + r) / 8 from by omega]

/-- The twenty steps together. -/
theorem steps_eq (R q : ℕ) : ∑ k ∈ Finset.range 20, term H W S k R q
    = dotRow (fun n => atN (0 : EReal) H R n) (fun j => atN (0#8) W q j) (fun g => atN (0 : EReal) S g q) := by
  rw [Finset.sum_congr rfl fun k _ => term_split H W S k R q, Finset.sum_add_distrib]
  unfold dotRow
  exact congrArg₂ (· + ·)
    (sum_blocks (fun j => atN (0 : EReal) H R (2 * j)
      * (rdec (IntOp.andi ((atN (0#8) W q j).setWidth 32) 15#32) * atN (0 : EReal) S (j / 8) q)) 128 20)
    (sum_blocks (fun j => atN (0 : EReal) H R (2 * j + 1)
      * (rdec (IntOp.shrsi .host ((atN (0#8) W q j).setWidth 32) 4#32) * atN (0 : EReal) S (j / 8) q)) 128 20)

end Cert.HeadValue

end
-- ==== Proof.Score.lean ====
/- The scaled scores of the head as one formula of the arguments. -/
module

public import proofs.«01_k».proof.Proof.Sum
public import proofs.«01_k».proof.Proof.Norm

@[expose] public section

set_option maxRecDepth 16384

noncomputable section

namespace Cert.HeadValue

open Cert.HeadIdeal Cert.HeadIdeal.Gen Idealize.ShloMosaic Idealize.ShloMosaic.TcCoe Idealize.ShloMosaic.ValueIdx

/-- Row `32 * s + b` of the normalized activations, for position `s` of batch `b`. -/
def hRow (X : S32x8x5120.Idx → EReal) (N : S5120.Idx → EReal) (R : Fin 256) (n : ℕ) : EReal :=
  if h : n < 5120 then normAt (fun k => X (ix3 (n0 := 32) (n1 := 8) (n2 := 5120) ⟨R.val % 32, Nat.mod_lt _ (by norm_num)⟩ ⟨R.val / 32, by omega⟩ k))
    (N (ix1 (n := 5120) ⟨n, h⟩)) ⟨n, h⟩
  else 0

/-- The score of a row and an output: their product, times the global scale, over the row's temperature, in units of the
    binary logarithm. -/
def score (X : S32x8x5120.Idx → EReal) (N : S5120.Idx → EReal) (W : S75776x2560.Idx → BitVec 8) (S : S75776x320.Idx → EReal)
    (G : S1.Idx → EReal) (T : S32.Idx → EReal) (R : Fin 256) (v : ℕ) : EReal :=
  Ideal.div (dotRow (hRow X N R) (fun j => atN (0#8) W v j) (fun g => atN (0 : EReal) S v g) * G (ix1 (n := 1) 0))
    (T (ix1 (n := 32) ⟨R.val % 32, Nat.mod_lt _ (by norm_num)⟩)) * Ideal.ofBits .f32 0x3FB8AA3B#32

/-- A row's product depends on the entries in range only. -/
theorem dotRow_congr {h h' : ℕ → EReal} {w w' : ℕ → BitVec 8} {s s' : ℕ → EReal} (hh : ∀ n, n < 5120 → h n = h' n)
    (hw : ∀ j, j < 2560 → w j = w' j) (hs : ∀ g, g < 320 → s g = s' g) : dotRow h w s = dotRow h' w' s' := by
  unfold dotRow
  refine congrArg₂ (· + ·) (Finset.sum_congr rfl fun j hj => ?_) (Finset.sum_congr rfl fun j hj => ?_)
  · have hj := Finset.mem_range.mp hj
    rw [hh _ (by omega), hw _ hj, hs _ (by omega)]
  · have hj := Finset.mem_range.mp hj
    rw [hh _ (by omega), hw _ hj, hs _ (by omega)]

/-- Scaling by the quotient, or scaling and then dividing: equal unless the divisor is zero. -/
theorem scale_quotient (a g t l : EReal) (ht : t ≠ 0) : a * (Ideal.div g t * l) = Ideal.div (a * g) t * l := by
  unfold Ideal.div
  rw [if_neg ht, if_neg ht, mul_assoc a g, mul_assoc a]

end Cert.HeadValue

end
-- ==== Proof.KernelScore.lean ====
/- The `head` kernel's array of scores, entry by entry. -/
module

public import proofs.«01_k».proof.Proof.Sweep
public import proofs.«01_k».proof.Proof.Blocks
public import proofs.«01_k».proof.Proof.Score

@[expose] public section

set_option maxRecDepth 16384

noncomputable section

namespace Cert.HeadValue

open Cert.HeadIdeal Cert.HeadIdeal.Gen Idealize.ShloMosaic Idealize.ShloMosaic.TcCoe Idealize.ShloMosaic.ValueIdx Idealize.SL.Sem

variable (m : (ℓ : Loc nD τ sig) → Buf (Elt Ideal) ℓ) (c : Dev nD)

/-- The scores of the arguments a memory holds. -/
def scores (i : S256x75776.Idx) : EReal :=
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1).val

theorem hS_at (R : Fin 256) (n : ℕ) (hn : n < 5120) : atN (0 : EReal) (hS m c) R.val n
    = hRow (m ((c : Thread nD τ).loc main_arg0)) (m ((c : Thread nD τ).loc main_arg1)) R n := by
  refine (atN_ix (n0 := 256) (n1 := 5120) (0 : EReal) (hS m c) R ⟨n, hn⟩).trans ?_
  unfold hRow
  rw [dif_pos hn]
  show normAt _ _ _ = normAt _ _ _
  refine congrArg₂ (normAt · · ⟨n, hn⟩) (funext fun k => ?_) ?_
  · exact blk2 m c t0 _
  · exact blk3 m c t0 ⟨n, hn⟩

theorem cS_at (y : S256x128.Idx) : cS m c y = Ideal.div (m ((c : Thread nD τ).loc main_arg4) (ix1 (n := 1) 0))
    (m ((c : Thread nD τ).loc main_arg5) (ix1 (n := 32) ⟨(y 0).val % 32, Nat.mod_lt _ (by norm_num)⟩)) * Ideal.ofBits .f32 0x3FB8AA3B#32 := by
  show CN _ _ y = _
  unfold CN
  rw [blk0, blk1]

/-- The array of scores the kernel leaves, when no temperature is zero. -/
theorem kernel_scores (hT : ∀ b : Fin 32, m ((c : Thread nD τ).loc main_arg5) (ix1 (n := 32) b) ≠ (0 : EReal)) (i : S256x75776.Idx) :
    Value.G7 m c i = scores m c i := by
  have h0 : (i 0).val < 256 := (i 0).isLt
  have h1 : (i 1).val < 75776 := (i 1).isLt
  have hp : Value.pt7Of i = (i 1).val / 512 := by show 148 * ((i 0).val / 256 - 0) + 1 * ((i 1).val / 512 - 0) = _; omega
  have ht : Value.pt7Of i < cfg0.N := by rw [hp]; exact lt_of_lt_of_eq (by omega) N_0.symm
  unfold Value.G7
  rw [dif_pos ht, ← Value.outsAt0_sweep m c _ ht, (every_point m c _ ht).1]
  unfold ZT
  rw [cS_at, steps_eq]
  have er : ((Value.loc7Of i) 0).val = (i 0).val := by show (i 0).val % 256 = _; omega
  have el : ((laneIx (Value.loc7Of i)) 0).val = (i 0).val := er
  have ev : 512 * Value.pt7Of i + (Value.loc7Of i 1).val = (i 1).val := by
    rw [hp]; show 512 * ((i 1).val / 512) + (i 1).val % 512 = _; omega
  have hq : (Value.loc7Of i 1).val < 512 := (Value.loc7Of i 1).isLt
  have hb : ∀ p : (laneIx (Value.loc7Of i) 0).val % 32 < 32,
      (ix1 (n := 32) ⟨(laneIx (Value.loc7Of i) 0).val % 32, p⟩) = ix1 (n := 32) ⟨(i 0).val % 32, Nat.mod_lt _ (by norm_num)⟩ := fun p => by
    congr 1; exact Fin.ext (by show (laneIx (Value.loc7Of i) 0).val % 32 = _; rw [el])
  rw [hb]
  refine (scale_quotient _ _ _ _ (hT _)).trans ?_
  unfold scores score
  refine congrArg (fun a => Ideal.div (a * m ((c : Thread nD τ).loc main_arg4) (ix1 (n := 1) 0))
    (m ((c : Thread nD τ).loc main_arg5) (ix1 (n := 32) ⟨(i 0).val % 32, Nat.mod_lt _ (by norm_num)⟩)) * Ideal.ofBits .f32 0x3FB8AA3B#32) ?_
  refine dotRow_congr (fun n hn => ?_) (fun j hj => ?_) (fun g hg => ?_)
  · rw [er]; exact hS_at m c (i 0) n hn
  · refine (atN_ix (n0 := 512) (n1 := 2560) (0#8) (iblk m c 4 ⟨Value.pt7Of i, ht⟩) (Value.loc7Of i 1) ⟨j, hj⟩).trans ?_
    refine (blk4 m c ⟨Value.pt7Of i, ht⟩ (Value.loc7Of i 1) ⟨j, hj⟩).trans ?_
    exact atN_idx (n0 := 75776) (n1 := 2560) (0#8) _ _ ev rfl
  · refine (atN_ix (n0 := 320) (n1 := 512) (0 : EReal) (iblk m c 5 ⟨Value.pt7Of i, ht⟩) ⟨g, hg⟩ (Value.loc7Of i 1)).trans ?_
    refine (blk5 m c ⟨Value.pt7Of i, ht⟩ ⟨g, hg⟩ (Value.loc7Of i 1)).trans ?_
    exact atN_idx (n0 := 75776) (n1 := 320) (0 : EReal) _ _ ev rfl

end Cert.HeadValue

end
-- ==== Proof.LaneOut.lean ====
/- What the `head` kernel's lanes come to after the last tile, as the scores of the whole array, when no temperature is
   zero: each row's base-2 log-sum-exp, and its score at the drafted token. -/
module

public import proofs.«01_k».proof.Proof.LaneSweep
public import proofs.«01_k».proof.Proof.KernelScore

@[expose] public section

set_option maxRecDepth 16384

noncomputable section

namespace Cert.HeadValue

open Cert.HeadIdeal Cert.HeadIdeal.Gen Idealize.ShloMosaic Idealize.ShloMosaic.TcCoe Idealize.ShloMosaic.ValueIdx Idealize.SL.Sem
open Idealize.ShloMosaic.StableHlo

/-- The lanes' first maximum is a real number. -/
theorem neg_big : ∃ r : ℝ, Ideal.ofBits .f32 0xFF61B1E6#32 = (r : EReal) := by
  simp [Ideal.ofBits, Ideal.ieee]
  exact ⟨_, rfl⟩

theorem first_max (y : S256x128.Idx) : ∃ r : ℝ, k0_pay338 (F := Ideal) y = (r : EReal) := by
  unfold k0_pay338; rw [shapeCast_self]; exact neg_big

theorem first_sum (y : S256x128.Idx) : k0_pay339 (F := Ideal) y = 0 := by
  unfold k0_pay339; rw [shapeCast_self]; exact Ideal.ofBits_zero_f32

theorem first_hit (y : S256x128.Idx) : k0_pay340 (F := Ideal) y = 0 := by
  unfold k0_pay340; rw [shapeCast_self]; exact Ideal.ofBits_zero_f32

variable (m : (ℓ : Loc nD τ sig) → Buf (Elt Ideal) ℓ) (c : Dev nD)

/-- A row's score at a column. -/
abbrev sc (R : Fin 256) (v : ℕ) : EReal :=
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R v

/-- A row's drafted token. -/
abbrev rowId (y : S256x128.Idx) : BitVec 32 := IN (iblk m c 6 t0) y

/-- A row's score at a column where that is its drafted token, else `0`. -/
abbrev at_id (y : S256x128.Idx) (v : ℕ) : EReal := if rowId m c y = BitVec.ofNat 32 v then sc m c (y 0) v else 0

variable (hT : ∀ b : Fin 32, m ((c : Thread nD τ).loc main_arg5) (ix1 (n := 32) b) ≠ (0 : EReal))
include hT

/-- A tile's scores. -/
theorem tile_score (n : ℕ) (hn : n < cfg0.N) (j : Fin 4) (y : S256x128.Idx) :
    tileAt m c n hn (colIx y j) = sc m c (y 0) (512 * n + (128 * j.val + (y 1).val)) := by
  have hN : n < 148 := lt_of_lt_of_eq hn N_0
  have hy : (y 1).val < 128 := (y 1).isLt
  have hj := j.isLt
  have h0 : (y 0).val < 256 := (y 0).isLt
  have hv : 512 * n + (128 * j.val + (y 1).val) < 75776 := by omega
  have e := kernel_scores m c hT (ix2 (n0 := 256) (n1 := 75776) (y 0) ⟨_, hv⟩)
  have hp : Value.pt7Of (ix2 (n0 := 256) (n1 := 75776) (y 0) ⟨_, hv⟩) = n := by
    show 148 * ((y 0).val / 256 - 0) + 1 * ((512 * n + (128 * j.val + (y 1).val)) / 512 - 0) = n; omega
  have hl : Value.loc7Of (ix2 (n0 := 256) (n1 := 75776) (y 0) ⟨_, hv⟩) = colIx y j := funext fun a => Fin.ext (by
    match a with
    | 0 => show (y 0).val % 256 = (y 0).val; omega
    | 1 => show (512 * n + (128 * j.val + (y 1).val)) % 512 = 128 * j.val + (y 1).val; omega)
  have ht : Value.pt7Of (ix2 (n0 := 256) (n1 := 75776) (y 0) ⟨_, hv⟩) < cfg0.N := by rw [hp]; exact hn
  refine Eq.trans ?_ e
  unfold Value.G7
  rw [dif_pos ht, ← Value.outsAt0_sweep m c _ ht, hl]
  have hg : ∀ (p : ℕ) (hp' : p < cfg0.N), p = n → (outsAt0 m c n hn).1 (colIx y j) = (outsAt0 m c p hp').1 (colIx y j) := by
    rintro p hp' rfl; rfl
  exact hg _ ht hp

/-- The drafted tokens stay. -/
theorem ids_stay (n : ℕ) (hn : n < cfg0.N) : idsAt m c n hn = IN (iblk m c 6 t0) := by
  induction n with
  | zero => exact (first_lanes m c t0 (Nat.zero_mod _) (by norm_num)).2.2.2
  | succ n ih => exact (next_lanes m c n hn).2.2.2.trans (ih (by omega))

/-- A lane's maximum and sum after point `n`. -/
theorem lane_state (n : ℕ) (hn : n < cfg0.N) (y : S256x128.Idx) :
    Online.St (∃ k < n + 1, ∃ j : Fin 4, sc m c (y 0) (512 * k + (128 * j.val + (y 1).val)) = ⊤)
      (∑ k ∈ Finset.range (n + 1), ∑ j : Fin 4, Online.w (sc m c (y 0) (512 * k + (128 * j.val + (y 1).val))))
      (maxAt m c n hn y) (sumAt m c n hn y) := by
  induction n with
  | zero =>
    obtain ⟨hm, hd, -⟩ := first_lanes m c t0 (Nat.zero_mod _) (by norm_num)
    obtain ⟨r, hr⟩ := first_max y
    have h : Online.St (∃ k < 0, ∃ j : Fin 4, sc m c (y 0) (512 * k + (128 * j.val + (y 1).val)) = ⊤)
        (∑ k ∈ Finset.range 0, ∑ j : Fin 4, Online.w (sc m c (y 0) (512 * k + (128 * j.val + (y 1).val))))
        (k0_pay338 (F := Ideal) y) (k0_pay339 (F := Ideal) y) := by
      rw [hr, first_sum, Finset.sum_range_zero]
      have : (∃ k < 0, ∃ j : Fin 4, sc m c (y 0) (512 * k + (128 * j.val + (y 1).val)) = ⊤) = False :=
        eq_false (by rintro ⟨k, hk, -⟩; omega)
      rw [this]; exact Online.St.init r
    have e := St_next (l := y 1) h (tile_score m c hT 0 hn 0 y) (tile_score m c hT 0 hn 1 y) (tile_score m c hT 0 hn 2 y) (tile_score m c hT 0 hn 3 y) rfl
    exact (congrArg₂ (fun a b => Online.St _ _ a b) (congrFun hm y) (congrFun hd y)).mpr e
  | succ n ih =>
    obtain ⟨hm, hd, -⟩ := next_lanes m c n hn
    have e := St_next (l := y 1) (ih (by omega)) (tile_score m c hT (n + 1) hn 0 y) (tile_score m c hT (n + 1) hn 1 y)
      (tile_score m c hT (n + 1) hn 2 y) (tile_score m c hT (n + 1) hn 3 y) rfl
    exact (congrArg₂ (fun a b => Online.St _ _ a b) (congrFun hm y) (congrFun hd y)).mpr e

/-- One tile's picked-out scores of a lane. -/
theorem picks (n : ℕ) (hn : n < cfg0.N) (y : S256x128.Idx) (hit : FVec Ideal S256x128 .f32) :
    HZ (tileAt m c n hn) hit (IN (iblk m c 6 t0)) (BitVec.ofNat 32 n) y
      = hit y + ∑ j : Fin 4, at_id m c y (512 * n + (128 * j.val + (y 1).val)) := by
  have hp : ∀ j : Fin 4, pickZ (tileAt m c n hn) (IN (iblk m c 6 t0)) (BitVec.ofNat 32 n) j y = at_id m c y (512 * n + (128 * j.val + (y 1).val)) := fun j => by
    unfold pickZ
    rw [tile_score m c hT n hn j y]
    exact if_congr (id_iff _ n j.val (y 1).val) rfl rfl
  unfold HZ
  rw [hp, hp, hp, hp, Fin.sum_univ_four, add_assoc, add_assoc, add_assoc]
  simp only [add_assoc]

/-- A lane's picked-out score after point `n`. -/
theorem lane_hit (n : ℕ) (hn : n < cfg0.N) (y : S256x128.Idx) :
    hitAt m c n hn y = ∑ k ∈ Finset.range (n + 1), ∑ j : Fin 4, at_id m c y (512 * k + (128 * j.val + (y 1).val)) := by
  induction n with
  | zero =>
    obtain ⟨-, -, hh, -⟩ := first_lanes m c t0 (Nat.zero_mod _) (by norm_num)
    refine (congrFun hh y).trans ((picks m c hT 0 hn y _).trans ?_)
    rw [first_hit, zero_add, Finset.sum_range_one]
  | succ n ih =>
    obtain ⟨-, -, hh, -⟩ := next_lanes m c n hn
    refine (congrFun hh y).trans ?_
    rw [ids_stay m c hT n (by omega), picks m c hT (n + 1) hn y, ih (by omega), Finset.sum_range_succ _ (n + 1)]

/-- The kernel's log-sum-exp. -/
theorem kernel_lse (y : S256x128.Idx) : Value.G8 m c y
    = Online.lse (∃ v < 75776, sc m c (y 0) v = ⊤) (∑ v ∈ Finset.range 75776, Online.w (sc m c (y 0) v)) := by
  have h147 : 146 + 1 < cfg0.N := lt_of_lt_of_eq (by norm_num) N_0.symm
  rw [Value.G8_last, ← Value.outsAt0_sweep m c 147 h147]
  refine (congrFun (last_rows m c 146 h147 (by norm_num)).1 y).trans ?_
  unfold lseOut
  refine (Online.lanes 0 _ _ (fun l => Finset.sum_nonneg fun k _ => Finset.sum_nonneg fun j _ => Online.w_nonneg _) _ _
    (fun l => lane_state m c hT 147 h147 (ix2 (n0 := 256) (n1 := 128) (y 0) l))).trans ?_
  refine congrArg₂ Online.lse (propext (exists_lanes (fun v => sc m c (y 0) v = ⊤) 148)) (sum_lanes (fun v => Online.w (sc m c (y 0) v)) 148)

/-- The kernel's picked-out scores. -/
theorem kernel_hit (y : S256x128.Idx) : Value.G9 m c y = ∑ v ∈ Finset.range 75776, at_id m c y v := by
  have h147 : 146 + 1 < cfg0.N := lt_of_lt_of_eq (by norm_num) N_0.symm
  rw [Value.G9_last, ← Value.outsAt0_sweep m c 147 h147]
  refine (congrFun (last_rows m c 146 h147 (by norm_num)).2 y).trans ?_
  refine Eq.trans (Finset.sum_congr rfl fun l _ => ?_) (sum_lanes (at_id m c y) 148)
  exact lane_hit m c hT 147 h147 (ix2 (n0 := 256) (n1 := 128) (y 0) l)

end Cert.HeadValue

end
-- ==== Proof.RefNorm.lean ====
/- The reference's normalized activations, and its block scales after the cast, read at an index. -/
module

public import proofs.«01_k».proof.Proof.Norm
public import proofs.«01_k».proof.Proof.Gen.ReferenceIdeal.Run
public import Idealize.ShloMosaic.Lib.IdealHost
public import Idealize.ShloMosaic.Lib.ValueIdx
public import Idealize.ShloMosaic.Lib.Pipeline.Value

@[expose] public section

set_option maxRecDepth 16384

noncomputable section

namespace Cert.HeadValue.Ref

open Cert.ReferenceIdeal Cert.ReferenceIdeal.Gen Idealize.ShloMosaic Idealize.ShloMosaic.TcCoe Idealize.ShloMosaic.ValueIdx Idealize.SL.Sem

/-- The activations the reference multiplies. -/
def acts (X : FVec Ideal S32x8x5120 .bf16) (N : FVec Ideal S5120 .f32) : FVec Ideal S32x8x5120 .bf16 :=
  truncf .bf16 (mulf (Host.divf (extf .f32 X bitsLt_bf16_f32) (broadcastInDim S32x8x5120 ![0, 1, 2] bcast_S32x8x1_S32x8x5120_0_1_2 (Host.sqrt (addf (Host.divf (broadcastInDim S32x8x1 ![0, 1] bcast_S32x8_S32x8x1_0_1 (Host.reduceAdd (mulf (extf .f32 X bitsLt_bf16_f32) (extf .f32 X bitsLt_bf16_f32)) (constant S_ .f32 0x00000000#32) reducesTo_S32x8x5120_S32x8_d2 h_S_)) (broadcastInDim S32x8x1 ![] bcast_S_S32x8x1 (constant S_ .f32 0x45A00000#32))) (broadcastInDim S32x8x1 ![] bcast_S_S32x8x1 (constant S_ .f32 0x3727C5AC#32)))))) (broadcastInDim S32x8x5120 ![0, 1, 2] bcast_S1x1x5120_S32x8x5120_0_1_2 (broadcastInDim S1x1x5120 ![2] bcast_S5120_S1x1x5120_2 N))) bitsLt_bf16_f32

theorem acts_at (X : FVec Ideal S32x8x5120 .bf16) (N : FVec Ideal S5120 .f32) (b : Fin 32) (s : Fin 8) (n : Fin 5120) :
    acts X N (ix3 (n0 := 32) (n1 := 8) (n2 := 5120) b s n)
      = normAt (fun k => X (ix3 (n0 := 32) (n1 := 8) (n2 := 5120) b s k)) (N (ix1 (n := 5120) n)) n := by
  unfold acts normAt
  refine congrArg₂ (· * ·) (congrArg (Ideal.div (X (ix3 (n0 := 32) (n1 := 8) (n2 := 5120) b s n))) ?_) ?_
  · refine (broadcastInDim_apply _ _ _ _ (ix3 (n0 := 32) (n1 := 8) (n2 := 1) b s 0) (fun a => by
      match a with | 0 => rfl | 1 => rfl | 2 => rfl)).trans ?_
    refine congrArg (fun z => Ideal.sqrt (Ideal.div z (Ideal.ofBits .f32 0x45A00000#32) + Ideal.ofBits .f32 0x3727C5AC#32)) ?_
    refine (broadcastInDim_apply _ _ _ _ (ix2 (n0 := 32) (n1 := 8) b s) (fun a => by
      match a with | 0 => rfl | 1 => rfl)).trans ?_
    refine (hostReduceAdd_apply _ _ _ _ _).trans ?_
    refine (Ideal.hostReduceAdd_single (s := S32x8x5120) (t := S32x8) (a := 2) _ (by decide) _ _ _).trans ?_
    refine (congrArg (· + _) (show _ = (0 : EReal) from Ideal.ofBits_zero_f32)).trans ((zero_add _).trans ?_)
    refine Finset.sum_congr rfl fun k _ => ?_
    have hk : ∀ h : S32x8x5120.Reduces [2] S32x8, h.lift (ix2 (n0 := 32) (n1 := 8) b s) k = ix3 (n0 := 32) (n1 := 8) (n2 := 5120) b s k := by
      intro h; funext a; match a with | 0 => rfl | 1 => rfl | 2 => rfl
    rw [hk]
    rfl
  · refine (broadcastInDim_apply _ _ _ _ (ix3 (n0 := 1) (n1 := 1) (n2 := 5120) 0 0 n) (fun a => by
      match a with | 0 => rfl | 1 => rfl | 2 => rfl)).trans ?_
    exact broadcastInDim_apply _ _ _ _ (ix1 (n := 5120) n) (fun a => by match a with | 0 => rfl)

variable (m : (ℓ : Loc nD τ sig) → Buf (Elt Ideal) ℓ) (c : Dev nD)

theorem exit_acts : Value.exitV m c (Proc.devRef .tc main_v14)
    = acts (m ((c.tc : Thread nD τ).loc main_arg0)) (m ((c.tc : Thread nD τ).loc main_arg1)) := Value.exit_main_v14 m c

theorem off0 : (![0, 0] : Fin 2 → ℕ) = fun _ => 0 := by funext a; match a with | 0 => rfl | 1 => rfl

/-- The block scales after the cast are the block scales. -/
theorem exit_scales : Value.exitV m c (Proc.devRef .tc main_v15) = (m ((c.tc : Thread nD τ).loc main_arg3) : S75776x320.Idx → EReal) := by
  rw [Value.exit_main_v15]
  unfold Value.reg_main_v15
  have hin : ∀ (t : Fin cfg0.N) (y : S75776x320.Idx), ((cfg0.win 0).blk t).view.emb y = y := fun t y => funext fun a => Fin.ext (by
    match a with
    | 0 => show 0 * 75776 + 1 * (y 0).val = (y 0).val; omega
    | 1 => show 0 * 320 + 1 * (y 1).val = (y 1).val; omega)
  have hout : ∀ (t : Fin cfg0.N) (y : S75776x320.Idx), ((cfg0.win 1).blk t).view.emb y = y := fun t y => funext fun a => Fin.ext (by
    match a with
    | 0 => show 0 * 75776 + 1 * (y 0).val = (y 0).val; omega
    | 1 => show 0 * 320 + 1 * (y 1).val = (y 1).val; omega)
  refine (dats m 0 c).arrAt_eq_of_cover 1 _ (fun t _ => ?_) (fun i => ⟨⟨0, by decide⟩, flush0_1 _, ?_⟩)
  · show (cfg0.win 1).cut (grid0.coords t) ((dats m 0 c).after 1 t) = _
    rw [after0_1]
    have e : out0_1 (iblk m c 0 t) = (m ((c.tc : Thread nD τ).loc main_arg3) : S75776x320.Idx → EReal) := by
      unfold out0_1
      refine (View.canon_unit_zero off0 _ _).trans ?_
      have e1 : View.ld (iblk m c 0 t) r0_0 = iblk m c 0 t := View.ld_unit_zero (S := S75776x320) off0 _ _
      funext y
      show (View.ld (iblk m c 0 t) r0_0 y : EReal) = _
      rw [e1]
      show V m c main_arg3 (((cfg0.win 0).blk t).view.emb y) = _
      rw [V_main_arg3, hin]
    rw [e]
    funext y
    exact congrArg (m ((c.tc : Thread nD τ).loc main_arg3)) (hout t y).symm
  · exact Finset.mem_map.mpr ⟨i, Finset.mem_univ _, hout _ i⟩

end Cert.HeadValue.Ref

end
-- ==== Proof.RefScore.lean ====
/- The reference's scores, entry by entry. -/
module

public import proofs.«01_k».proof.Proof.Gen.ReferenceIdeal.Read
public import proofs.«01_k».proof.Proof.Score

@[expose] public section

set_option maxRecDepth 16384

noncomputable section

namespace Cert.HeadValue.Ref

open Cert.ReferenceIdeal Cert.ReferenceIdeal.Gen Cert.ReferenceIdeal.Read Idealize.ShloMosaic Idealize.ShloMosaic.TcCoe
open Idealize.ShloMosaic.ValueIdx

variable (x2 : Vec Ideal S75776x2560 .i8) (x4 : FVec Ideal S1 .f32) (x5 : FVec Ideal S32 .f32) (r0 : FVec Ideal S75776x320 .bf16)
variable (e0 : FVec Ideal S32x8x5120 .bf16)

/-- A weight of the even columns: its byte's low code, decoded. -/
theorem low_at (i : S75776x2560.Idx) : val_main_v45 (F := Ideal) x2 i = rdec (IntOp.andi ((x2 i).setWidth 32) 15#32) := by
  rfl

/-- A weight of the odd columns: its byte's high code, decoded. -/
theorem high_at (i : S75776x2560.Idx) : val_main_v73 (F := Ideal) x2 i = rdec (IntOp.shrsi .host ((x2 i).setWidth 32) 4#32) := by
  rfl

/-- A weight's scale: its group of eight bytes'. -/
theorem scale_at (v : Fin 75776) (j : Fin 2560) : val_main_v17 (F := Ideal) r0 (ix2 (n0 := 75776) (n1 := 2560) v j)
    = r0 (ix2 (n0 := 75776) (n1 := 320) v ⟨j.val / 8, by omega⟩) := by
  rw [val_main_v17_apply, val_main_v16_apply]
  refine congrArg r0 (funext fun a => Fin.ext ?_)
  match a with
  | 0 => show (v.val * 2560 + j.val) / 2560 = v.val; omega
  | 1 => show (v.val * 2560 + j.val) / 8 % 320 = j.val / 8; omega

/-- A row of activations, at natural coordinates. -/
def eRow (b : Fin 32) (s : Fin 8) (n : ℕ) : EReal := if h : n < 5120 then e0 (ix3 (n0 := 32) (n1 := 8) (n2 := 5120) b s ⟨n, h⟩) else 0

/-- The even columns' product. -/
theorem even_at (b : Fin 32) (s : Fin 8) (v : Fin 75776) : val_main_v76 (F := Ideal) x2 r0 e0 (ix3 (n0 := 32) (n1 := 8) (n2 := 75776) b s v)
    = ∑ j ∈ Finset.range 2560, eRow e0 b s (2 * j)
        * (rdec (IntOp.andi ((atN (0#8) x2 v.val j).setWidth 32) 15#32) * atN (0 : EReal) r0 v.val (j / 8)) := by
  rw [val_main_v76_apply, Finset.sum_range]
  refine Finset.sum_congr rfl fun j _ => congrArg₂ (· * ·) ?_ ?_
  · unfold eRow
    rw [dif_pos (by omega)]
    refine congrArg e0 (funext fun a => Fin.ext ?_)
    match a with
    | 0 => show 0 + 1 * b.val = b.val; omega
    | 1 => show 0 + 1 * s.val = s.val; omega
    | 2 => show 0 + 2 * j.val = 2 * j.val; omega
  · have hr : ridx_main_v76 (ix3 (n0 := 32) (n1 := 8) (n2 := 75776) b s v) j = ix2 (n0 := 75776) (n1 := 2560) v j := by
      funext a; match a with | 0 => rfl | 1 => rfl
    rw [hr]
    refine (val_main_v46_apply x2 r0 _).trans (congrArg₂ (· * ·) ?_ ?_)
    · rw [low_at, atN_ix]
    · rw [scale_at]
      exact (atN_ix (n0 := 75776) (n1 := 320) (0 : EReal) r0 v ⟨j.val / 8, by omega⟩).symm

/-- The odd columns' product. -/
theorem odd_at (b : Fin 32) (s : Fin 8) (v : Fin 75776) : val_main_v78 (F := Ideal) x2 r0 e0 (ix3 (n0 := 32) (n1 := 8) (n2 := 75776) b s v)
    = ∑ j ∈ Finset.range 2560, eRow e0 b s (2 * j + 1)
        * (rdec (IntOp.shrsi .host ((atN (0#8) x2 v.val j).setWidth 32) 4#32) * atN (0 : EReal) r0 v.val (j / 8)) := by
  rw [val_main_v78_apply, Finset.sum_range]
  refine Finset.sum_congr rfl fun j _ => congrArg₂ (· * ·) ?_ ?_
  · unfold eRow
    rw [dif_pos (by omega)]
    refine congrArg e0 (funext fun a => Fin.ext ?_)
    match a with
    | 0 => show 0 + 1 * b.val = b.val; omega
    | 1 => show 0 + 1 * s.val = s.val; omega
    | 2 => show 1 + 2 * j.val = 2 * j.val + 1; omega
  · have hr : ridx_main_v78 (ix3 (n0 := 32) (n1 := 8) (n2 := 75776) b s v) j = ix2 (n0 := 75776) (n1 := 2560) v j := by
      funext a; match a with | 0 => rfl | 1 => rfl
    rw [hr]
    refine (val_main_v74_apply x2 r0 _).trans (congrArg₂ (· * ·) ?_ ?_)
    · rw [high_at, atN_ix]
    · rw [scale_at]
      exact (atN_ix (n0 := 75776) (n1 := 320) (0 : EReal) r0 v ⟨j.val / 8, by omega⟩).symm

/-- The score of position `s` of batch `b` and output `v`. -/
theorem score_at (b : Fin 32) (s : Fin 8) (v : Fin 75776) :
    val_main_v87 (F := Ideal) x2 x4 x5 r0 e0 (ix3 (n0 := 32) (n1 := 8) (n2 := 75776) b s v)
      = Ideal.div (dotRow (eRow e0 b s) (fun j => atN (0#8) x2 v.val j) (fun g => atN (0 : EReal) r0 v.val g) * x4 (ix1 (n := 1) 0))
        (x5 (ix1 (n := 32) b)) * Ideal.ofBits .f32 0x3FB8AA3B#32 := by
  refine (val_main_v87_apply x2 x4 x5 r0 e0 _).trans (congrArg₂ (· * ·) ?_ ?_)
  · refine (val_main_v85_apply x2 x4 x5 r0 e0 _).trans (congrArg₂ Ideal.div ?_ ?_)
    · refine (val_main_v82_apply x2 x4 r0 e0 _).trans (congrArg₂ (· * ·) ?_ ?_)
      · refine (val_main_v79_apply x2 r0 e0 _).trans ?_
        exact congrArg₂ (· + ·) (even_at x2 r0 e0 b s v) (odd_at x2 r0 e0 b s v)
      · rw [val_main_v81_apply, val_main_v80_apply]
        refine congrArg x4 (funext fun a => Fin.ext ?_)
        match a with | 0 => rfl
    · rw [val_main_v84_apply, val_main_v83_apply]
      refine congrArg x5 (funext fun a => Fin.ext ?_)
      match a with | 0 => rfl
  · rfl

/-- The reference's result, entry by entry. -/
theorem result_at (i : S256x75776.Idx) : val_main_v112 (F := Ideal) x2 x4 x5 r0 e0 i
    = Ideal.div (dotRow (eRow e0 ⟨(i 0).val % 32, Nat.mod_lt _ (by norm_num)⟩ ⟨(i 0).val / 32, by have h : (i 0).val < 256 := (i 0).isLt; omega⟩)
        (fun j => atN (0#8) x2 (i 1).val j) (fun g => atN (0 : EReal) r0 (i 1).val g) * x4 (ix1 (n := 1) 0))
        (x5 (ix1 (n := 32) ⟨(i 0).val % 32, Nat.mod_lt _ (by norm_num)⟩)) * Ideal.ofBits .f32 0x3FB8AA3B#32 := by
  have h0 : (i 0).val < 256 := (i 0).isLt
  have h1 : (i 1).val < 75776 := (i 1).isLt
  rw [val_main_v112_apply, val_main_v111_apply]
  have hj : idx_main_v111 (idx_main_v112 i) = ix3 (n0 := 32) (n1 := 8) (n2 := 75776) ⟨(i 0).val % 32, Nat.mod_lt _ (by norm_num)⟩
      ⟨(i 0).val / 32, by omega⟩ (i 1) := funext fun a => Fin.ext (by
    match a with
    | 0 => show ((i 0).val * 75776 + (i 1).val) / 75776 % 32 = (i 0).val % 32; omega
    | 1 => show ((i 0).val * 75776 + (i 1).val) / 2424832 = (i 0).val / 32; omega
    | 2 => show ((i 0).val * 75776 + (i 1).val) % 75776 = (i 1).val; omega)
  rw [hj]
  exact score_at x2 x4 x5 r0 e0 _ _ (i 1)

end Cert.HeadValue.Ref

end
-- ==== Proof.RefValue.lean ====
/- What the reference leaves, entry by entry, as the one formula of the arguments. -/
module

public import proofs.«01_k».proof.Proof.RefNorm
public import proofs.«01_k».proof.Proof.RefScore

@[expose] public section

set_option maxRecDepth 16384

noncomputable section

namespace Cert.HeadValue.Ref

open Cert.ReferenceIdeal Cert.ReferenceIdeal.Gen Cert.ReferenceIdeal.Read Idealize.ShloMosaic Idealize.ShloMosaic.TcCoe
open Idealize.ShloMosaic.ValueIdx Idealize.SL.Sem

variable (m : (ℓ : Loc nD τ sig) → Buf (Elt Ideal) ℓ) (c : Dev nD)

theorem row_eq (X : FVec Ideal S32x8x5120 .bf16) (N : FVec Ideal S5120 .f32) (R : Fin 256) (n : ℕ) (hn : n < 5120) :
    eRow (acts X N) ⟨R.val % 32, Nat.mod_lt _ (by norm_num)⟩ ⟨R.val / 32, by omega⟩ n = hRow X N R n := by
  unfold eRow hRow
  rw [dif_pos hn, dif_pos hn, acts_at]

/-- The reference's result. -/
theorem reference_scores (i : S256x75776.Idx) :
    val_main_v112 (F := Ideal) (Value.exitV m c (Proc.devRef .tc main_arg2)) (Value.exitV m c (Proc.devRef .tc main_arg4))
      (Value.exitV m c (Proc.devRef .tc main_arg5)) (Value.exitV m c (Proc.devRef .tc main_v15)) (Value.exitV m c (Proc.devRef .tc main_v14)) i
      = score (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (i 0) (i 1).val := by
  rw [result_at, exit_acts, exit_scales, Value.exit_main_arg2, Value.exit_main_arg4, Value.exit_main_arg5]
  unfold score
  refine congrArg (fun a => Ideal.div (a * m ((c.tc : Thread nD τ).loc main_arg4) (ix1 (n := 1) 0))
    (m ((c.tc : Thread nD τ).loc main_arg5) (ix1 (n := 32) ⟨(i 0).val % 32, Nat.mod_lt _ (by norm_num)⟩)) * Ideal.ofBits .f32 0x3FB8AA3B#32) ?_
  exact dotRow_congr (fun n hn => row_eq _ _ (i 0) n hn) (fun _ _ => rfl) (fun _ _ => rfl)

/-- The reference's scores, position by position. -/
theorem position_score (R : Fin 256) (v : Fin 75776) :
    val_main_v87 (F := Ideal) (Value.exitV m c (Proc.devRef .tc main_arg2)) (Value.exitV m c (Proc.devRef .tc main_arg4))
      (Value.exitV m c (Proc.devRef .tc main_arg5)) (Value.exitV m c (Proc.devRef .tc main_v15)) (Value.exitV m c (Proc.devRef .tc main_v14))
      (ix3 (n0 := 32) (n1 := 8) (n2 := 75776) ⟨R.val % 32, Nat.mod_lt _ (by norm_num)⟩ ⟨R.val / 32, by omega⟩ v)
      = score (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) R v.val := by
  refine Eq.trans ?_ (reference_scores m c (ix2 (n0 := 256) (n1 := 75776) R v))
  rw [val_main_v112_apply, val_main_v111_apply]
  refine congrArg _ (funext fun a => Fin.ext ?_)
  match a with
  | 0 => show R.val % 32 = (R.val * 75776 + v.val) / 75776 % 32; omega
  | 1 => show R.val / 32 = (R.val * 75776 + v.val) / 2424832; omega
  | 2 => show v.val = (R.val * 75776 + v.val) % 75776; omega

end Cert.HeadValue.Ref

end
-- ==== Proof.RefRows.lean ====
/- The reference's two results a row: the base-2 log-sum-exp of a row's scores, and its score at the drafted token. -/
module

public import proofs.«01_k».proof.Proof.RefValue
public import proofs.«01_k».proof.Proof.Final
public import Idealize.ShloMosaic.Lib.KernelVsHost

@[expose] public section

set_option maxRecDepth 16384

noncomputable section

namespace Cert.HeadValue.Ref

open Cert.ReferenceIdeal Cert.ReferenceIdeal.Gen Cert.ReferenceIdeal.Read Idealize.ShloMosaic Idealize.ShloMosaic.TcCoe
open Idealize.ShloMosaic.ValueIdx Idealize.SL.Sem

section Rows

variable (x2 : Vec Ideal S75776x2560 .i8) (x4 : FVec Ideal S1 .f32) (x5 : FVec Ideal S32 .f32) (x6 : IVec S32x7 32)
variable (r0 : FVec Ideal S75776x320 .bf16) (e0 : FVec Ideal S32x8x5120 .bf16)

/-- A position's score at an output. -/
abbrev at3 (b : Fin 32) (s : Fin 8) (v : Fin 75776) : EReal :=
  val_main_v87 (F := Ideal) x2 x4 x5 r0 e0 (ix3 (n0 := 32) (n1 := 8) (n2 := 75776) b s v)

theorem max_any (X : FVec Ideal S32x8x75776 .f32) (b : Fin 32) (s : Fin 8) :
    Host.reduce FloatOps.maximumf X (constant (F := Ideal) S_ .f32 0xFF800000#32) reducesTo_S32x8x75776_S32x8_d2 h_S_ (ix2 (n0 := 32) (n1 := 8) b s)
      = Online.top (fun v : Fin 75776 => X (ix3 (n0 := 32) (n1 := 8) (n2 := 75776) b s v)) := by
  have hr : S32x8x75776.Reduces [2] S32x8 := by decide
  have hF : FKind.Formats .f32 := by decide
  have hn : 0xFF800000#32 = FKind.maximumf.neutral .f32 hF := rfl
  have e := hostReduce_maximumf_eq_multiReduction (F := Ideal) (φ := .f32) (u := S_) X 0xFF800000#32 reducesTo_S32x8x75776_S32x8_d2 h_S_ hr hF hn
  rw [e, Ideal.multiReduction_maximumf_single (s := S32x8x75776) (t := S32x8) (a := 2)]
  unfold Online.top
  rw [← neg_inf]
  have hl : (X ∘ hr.lift (ix2 (n0 := 32) (n1 := 8) b s)) = fun v : Fin 75776 => X (ix3 (n0 := 32) (n1 := 8) (n2 := 75776) b s v) :=
    funext fun v => congrArg X (funext fun a => by match a with | 0 => rfl | 1 => rfl | 2 => rfl)
  rw [hl]
  exact congrArg (fun z => (Finset.univ : Finset (Fin 75776)).fold max z _) rfl

theorem max_at (b : Fin 32) (s : Fin 8) :
    val_main_v88 (F := Ideal) x2 x4 x5 r0 e0 (ix2 (n0 := 32) (n1 := 8) b s) = Online.top (at3 x2 x4 x5 r0 e0 b s) := by
  unfold val_main_v88 val_main_cst_36
  exact max_any _ b s

theorem ceil_at (b : Fin 32) (s : Fin 8) :
    val_main_v89 (F := Ideal) x2 x4 x5 r0 e0 (ix2 (n0 := 32) (n1 := 8) b s) = Ideal.liftRound Int.ceil (Online.top (at3 x2 x4 x5 r0 e0 b s)) := by
  refine (val_main_v89_apply x2 x4 x5 r0 e0 _).trans ?_
  rw [max_at]
  generalize Online.top (at3 x2 x4 x5 r0 e0 b s) = T
  exact rfl

theorem power_at (b : Fin 32) (s : Fin 8) (v : Fin 75776) :
    val_main_v94 (F := Ideal) x2 x4 x5 r0 e0 (ix3 (n0 := 32) (n1 := 8) (n2 := 75776) b s v)
      = Ideal.exp2 (at3 x2 x4 x5 r0 e0 b s v - Ideal.liftRound Int.ceil (Online.top (at3 x2 x4 x5 r0 e0 b s))) := by
  rw [val_main_v94_apply, val_main_v93_apply, val_main_v92_apply, val_main_v91_apply, val_main_v90_apply]
  have hj : idx_main_v90 (idx_main_v91 (ix3 (n0 := 32) (n1 := 8) (n2 := 75776) b s v)) = ix2 (n0 := 32) (n1 := 8) b s := by
    funext a; match a with | 0 => rfl | 1 => rfl
  rw [hj, ceil_at]
  show Ideal.pow (Ideal.ofBits .f32 0x40000000#32) _ = _
  rw [two_f32]
  exact Online.pow_two_eq_exp2 _

/-- A position's log-sum-exp. -/
theorem lse_row (b : Fin 32) (s : Fin 8) : val_main_v100 (F := Ideal) x2 x4 x5 r0 e0 (ix2 (n0 := 32) (n1 := 8) b s)
    = Online.lse (∃ v, at3 x2 x4 x5 r0 e0 b s v = ⊤) (∑ v, Online.w (at3 x2 x4 x5 r0 e0 b s v)) := by
  have hs : val_main_v95 (F := Ideal) x2 x4 x5 r0 e0 (ix2 (n0 := 32) (n1 := 8) b s)
      = ∑ v, Ideal.exp2 (at3 x2 x4 x5 r0 e0 b s v - Ideal.liftRound Int.ceil (Online.top (at3 x2 x4 x5 r0 e0 b s))) := by
    refine (val_main_v95_apply x2 x4 x5 r0 e0 _).trans ?_
    refine (congrArg₂ (fun (a b : EReal) => a + b) Ideal.ofBits_zero_f32 (Finset.sum_congr rfl fun v _ => ?_)).trans (zero_add _)
    have hj : idx_main_v95 (ix2 (n0 := 32) (n1 := 8) b s) v = ix3 (n0 := 32) (n1 := 8) (n2 := 75776) b s v := by
      funext a; match a with | 0 => rfl | 1 => rfl | 2 => rfl
    rw [hj]
    exact power_at x2 x4 x5 r0 e0 b s v
  have hl : val_main_v98 (F := Ideal) (ix2 (n0 := 32) (n1 := 8) b s) = Ideal.log ((2 : ℝ) : EReal) := by
    rw [val_main_v98_apply, val_main_v97_apply]
    exact congrArg Ideal.log two_f32
  refine Eq.trans ?_ (Online.direct (at3 x2 x4 x5 r0 e0 b s))
  rw [val_main_v100_apply, val_main_v99_apply, val_main_v96_apply, hs, hl, ceil_at]
  generalize Online.top (at3 x2 x4 x5 r0 e0 b s) = T
  generalize ∑ v, Ideal.exp2 (at3 x2 x4 x5 r0 e0 b s v - Ideal.liftRound Int.ceil T) = U
  exact rfl

/-- An output's score where it is the drafted token, else `0`. -/
theorem pick_row (b : Fin 32) (s : Fin 7) (v : Fin 75776) :
    val_main_v108 (F := Ideal) x2 x4 x5 x6 r0 e0 (ix3 (n0 := 32) (n1 := 7) (n2 := 75776) b s v)
      = if x6 (ix2 (n0 := 32) (n1 := 7) b s) = BitVec.ofNat 32 v.val then at3 x2 x4 x5 r0 e0 b ⟨s.val, by omega⟩ v else 0 := by
  rw [val_main_v108_apply, val_main_v106_apply, val_main_v104_apply, val_main_v103_apply, val_main_v101_apply, val_main_v105_apply,
    val_main_v102_apply, val_main_v107_apply, val_main_call16_v1_apply, val_main_call16_v0_apply]
  have h6 : idx_main_v102 (idx_main_v105 (ix3 (n0 := 32) (n1 := 7) (n2 := 75776) b s v)) = ix2 (n0 := 32) (n1 := 7) b s := by
    funext a; match a with | 0 => rfl | 1 => rfl
  have h7 : idx_main_v107 (ix3 (n0 := 32) (n1 := 7) (n2 := 75776) b s v) = ix3 (n0 := 32) (n1 := 8) (n2 := 75776) b ⟨s.val, by omega⟩ v := by
    funext a; match a with | 0 => rfl | 1 => rfl | 2 => rfl
  rw [h6, h7]
  show (if BitVec.ofBool (BitVec.ofNat 32 v.val == x6 (ix2 (n0 := 32) (n1 := 7) b s)) = 1 then at3 x2 x4 x5 r0 e0 b ⟨s.val, by omega⟩ v
    else Ideal.ofBits .f32 0x00000000#32) = _
  rw [Ideal.ofBits_zero_f32]
  by_cases he : x6 (ix2 (n0 := 32) (n1 := 7) b s) = BitVec.ofNat 32 v.val
  · rw [if_pos he, if_pos]; rw [beq_iff_eq.mpr he.symm]; rfl
  · rw [if_neg he, if_neg]; rw [beq_eq_false_iff_ne.mpr (Ne.symm he)]; decide

/-- A position's score at its drafted token. -/
theorem hit_row (b : Fin 32) (s : Fin 7) : val_main_v109 (F := Ideal) x2 x4 x5 x6 r0 e0 (ix2 (n0 := 32) (n1 := 7) b s)
    = ∑ v : Fin 75776, if x6 (ix2 (n0 := 32) (n1 := 7) b s) = BitVec.ofNat 32 v.val then at3 x2 x4 x5 r0 e0 b ⟨s.val, by omega⟩ v else 0 := by
  refine (val_main_v109_apply x2 x4 x5 x6 r0 e0 _).trans ?_
  refine (congrArg₂ (· + ·) Ideal.ofBits_zero_f32 (Finset.sum_congr rfl fun v _ => ?_)).trans (zero_add _)
  have hj : idx_main_v109 (ix2 (n0 := 32) (n1 := 7) b s) v = ix3 (n0 := 32) (n1 := 7) (n2 := 75776) b s v := by
    funext a; match a with | 0 => rfl | 1 => rfl | 2 => rfl
  rw [hj]
  exact pick_row x2 x4 x5 x6 r0 e0 b s v

/-- The first seven positions keep theirs. -/
theorem pad_in (b : Fin 32) (s : Fin 7) : val_main_v110 (F := Ideal) x2 x4 x5 x6 r0 e0 (ix2 (n0 := 32) (n1 := 8) b ⟨s.val, by omega⟩)
    = val_main_v109 (F := Ideal) x2 x4 x5 x6 r0 e0 (ix2 (n0 := 32) (n1 := 7) b s) := by
  unfold val_main_v110
  exact pad_apply_of_inside _ _ _ _ _ _ _ _ (ix2 (n0 := 32) (n1 := 7) b s) (fun a => by
    match a with
    | 0 => show b.val = 0 + b.val * 1; omega
    | 1 => show s.val = 0 + s.val * 1; omega)

/-- The last position has `0`. -/
theorem pad_out (b : Fin 32) : val_main_v110 (F := Ideal) x2 x4 x5 x6 r0 e0 (ix2 (n0 := 32) (n1 := 8) b 7) = 0 := by
  unfold val_main_v110
  refine (pad_apply_of_not_inside _ _ _ _ _ _ _ _ 1 (by
    rintro ⟨-, -, h⟩; exact absurd h (by show ¬(7 - 0) / (0 + 1) < 7; decide))).trans ?_
  show ((((0#32 : BitVec 32).toInt : ℤ) : ℝ) : EReal) = 0
  simp

variable (y : S256x128.Idx)

theorem y_lt : (y 0).val < 256 := (y 0).isLt

/-- The log-sum-exp result. -/
theorem lse_result : val_main_v115 (F := Ideal) x2 x4 x5 r0 e0 y
    = val_main_v100 (F := Ideal) x2 x4 x5 r0 e0 (ix2 (n0 := 32) (n1 := 8) ⟨(y 0).val % 32, Nat.mod_lt _ (by norm_num)⟩ ⟨(y 0).val / 32, by have := y_lt y; omega⟩) := by
  rw [val_main_v115_apply, val_main_v114_apply, val_main_v113_apply]
  refine congrArg _ (funext fun a => Fin.ext ?_)
  have := y_lt y
  match a with
  | 0 => show ((y 0).val * 1 + 0) % 32 = (y 0).val % 32; omega
  | 1 => show ((y 0).val * 1 + 0) / 32 = (y 0).val / 32; omega

/-- The picked-out scores' result. -/
theorem hit_result : val_main_v118 (F := Ideal) x2 x4 x5 x6 r0 e0 y
    = val_main_v110 (F := Ideal) x2 x4 x5 x6 r0 e0 (ix2 (n0 := 32) (n1 := 8) ⟨(y 0).val % 32, Nat.mod_lt _ (by norm_num)⟩ ⟨(y 0).val / 32, by have := y_lt y; omega⟩) := by
  rw [val_main_v118_apply, val_main_v117_apply, val_main_v116_apply]
  refine congrArg _ (funext fun a => Fin.ext ?_)
  have := y_lt y
  match a with
  | 0 => show ((y 0).val * 1 + 0) % 32 = (y 0).val % 32; omega
  | 1 => show ((y 0).val * 1 + 0) / 32 = (y 0).val / 32; omega

end Rows

end Cert.HeadValue.Ref

end
-- ==== Proof.Agree.lean ====
/- The two programs' three results are equal, when no temperature is zero. -/
module

public import proofs.«01_k».proof.Defs
public import proofs.«01_k».proof.Proof.LaneOut
public import proofs.«01_k».proof.Proof.RefRows

@[expose] public section

set_option maxRecDepth 16384

noncomputable section

namespace Cert.HeadValue

open Idealize.ShloMosaic Idealize.ShloMosaic.TcCoe Idealize.ShloMosaic.ValueIdx Idealize.SL.Sem

/-- The precondition's one shape fact. -/
theorem pre_facts : Cert.Pre_temperature_not_zero.Facts := ⟨by decide⟩

variable (m : (ℓ : Loc Cert.HeadIdeal.nD Cert.HeadIdeal.τ Cert.HeadIdeal.sig) → Buf (Elt Ideal) ℓ)
variable (m' : (ℓ : Loc Cert.ReferenceIdeal.nD Cert.ReferenceIdeal.τ Cert.ReferenceIdeal.sig) → Buf (Elt Ideal) ℓ)

/-- Under the precondition no temperature is zero. -/
theorem temps_ne (h : Pre_HeadIdeal_temperature_not_zero (hPre_temperature_not_zero := pre_facts) m) (c : Dev Cert.HeadIdeal.nD) (b : Fin 32) :
    m ((c.tc : Thread Cert.HeadIdeal.nD Cert.HeadIdeal.τ).loc Cert.HeadIdeal.main_arg5) (ix1 (n := 32) b) ≠ (0 : EReal) := by
  intro h0
  have e := congrFun (h c) (ix1 (n := 32) b)
  have e' : Ideal.cmp .une (m ((c.tc : Thread Cert.HeadIdeal.nD Cert.HeadIdeal.τ).loc Cert.HeadIdeal.main_arg5) (ix1 (n := 32) b))
      (Ideal.ofBits .f32 0x00000000#32) = 1#1 := e
  rw [h0, Ideal.ofBits_zero_f32] at e'
  simp [Ideal.cmp] at e'

/-- The two memories hold the same arguments. -/
abbrev SameArgs : Prop := ∀ c : Dev Cert.HeadIdeal.nD,
      m' ((c.tc : Thread Cert.ReferenceIdeal.nD Cert.ReferenceIdeal.τ).loc Cert.ReferenceIdeal.main_arg0) = m ((c.tc : Thread Cert.HeadIdeal.nD Cert.HeadIdeal.τ).loc Cert.HeadIdeal.main_arg0)
      ∧ m' ((c.tc : Thread Cert.ReferenceIdeal.nD Cert.ReferenceIdeal.τ).loc Cert.ReferenceIdeal.main_arg1) = m ((c.tc : Thread Cert.HeadIdeal.nD Cert.HeadIdeal.τ).loc Cert.HeadIdeal.main_arg1)
      ∧ m' ((c.tc : Thread Cert.ReferenceIdeal.nD Cert.ReferenceIdeal.τ).loc Cert.ReferenceIdeal.main_arg2) = m ((c.tc : Thread Cert.HeadIdeal.nD Cert.HeadIdeal.τ).loc Cert.HeadIdeal.main_arg2)
      ∧ m' ((c.tc : Thread Cert.ReferenceIdeal.nD Cert.ReferenceIdeal.τ).loc Cert.ReferenceIdeal.main_arg3) = m ((c.tc : Thread Cert.HeadIdeal.nD Cert.HeadIdeal.τ).loc Cert.HeadIdeal.main_arg3)
      ∧ m' ((c.tc : Thread Cert.ReferenceIdeal.nD Cert.ReferenceIdeal.τ).loc Cert.ReferenceIdeal.main_arg4) = m ((c.tc : Thread Cert.HeadIdeal.nD Cert.HeadIdeal.τ).loc Cert.HeadIdeal.main_arg4)
      ∧ m' ((c.tc : Thread Cert.ReferenceIdeal.nD Cert.ReferenceIdeal.τ).loc Cert.ReferenceIdeal.main_arg5) = m ((c.tc : Thread Cert.HeadIdeal.nD Cert.HeadIdeal.τ).loc Cert.HeadIdeal.main_arg5)
      ∧ m' ((c.tc : Thread Cert.ReferenceIdeal.nD Cert.ReferenceIdeal.τ).loc Cert.ReferenceIdeal.main_arg6) = m ((c.tc : Thread Cert.HeadIdeal.nD Cert.HeadIdeal.τ).loc Cert.HeadIdeal.main_arg6)

variable (h : Pre_HeadIdeal_temperature_not_zero (hPre_temperature_not_zero := pre_facts) m) (e : SameArgs m m')
include h e

/-- From equal arguments, the reference's result is the kernel's. -/
theorem results_agree (c : Dev Cert.HeadIdeal.nD) (i : Cert.HeadIdeal.S256x75776.Idx) :
    Cert.ReferenceIdeal.Read.val_main_v112 (F := Ideal)
      (Cert.ReferenceIdeal.Value.exitV m' c (Proc.devRef .tc Cert.ReferenceIdeal.main_arg2))
      (Cert.ReferenceIdeal.Value.exitV m' c (Proc.devRef .tc Cert.ReferenceIdeal.main_arg4))
      (Cert.ReferenceIdeal.Value.exitV m' c (Proc.devRef .tc Cert.ReferenceIdeal.main_arg5))
      (Cert.ReferenceIdeal.Value.exitV m' c (Proc.devRef .tc Cert.ReferenceIdeal.main_v15))
      (Cert.ReferenceIdeal.Value.exitV m' c (Proc.devRef .tc Cert.ReferenceIdeal.main_v14)) i
      = Cert.HeadIdeal.Value.G7 m c i := by
  obtain ⟨e0, e1, e2, e3, e4, e5, -⟩ := e c
  rw [kernel_scores m c (temps_ne m h c) i]
  refine (Ref.reference_scores m' c i).trans ?_
  rw [e0, e1, e2, e3, e4, e5]
  rfl

/-- The reference's score of a row at an output is the kernel's. -/
theorem scores_agree (c : Dev Cert.HeadIdeal.nD) (R : Fin 256) (v : Fin 75776) :
    Ref.at3
      (Cert.ReferenceIdeal.Value.exitV m' c (Proc.devRef .tc Cert.ReferenceIdeal.main_arg2))
      (Cert.ReferenceIdeal.Value.exitV m' c (Proc.devRef .tc Cert.ReferenceIdeal.main_arg4))
      (Cert.ReferenceIdeal.Value.exitV m' c (Proc.devRef .tc Cert.ReferenceIdeal.main_arg5))
      (Cert.ReferenceIdeal.Value.exitV m' c (Proc.devRef .tc Cert.ReferenceIdeal.main_v15))
      (Cert.ReferenceIdeal.Value.exitV m' c (Proc.devRef .tc Cert.ReferenceIdeal.main_v14))
      ⟨R.val % 32, Nat.mod_lt _ (by norm_num)⟩ ⟨R.val / 32, by omega⟩ v = sc m c R v.val := by
  obtain ⟨e0, e1, e2, e3, e4, e5, -⟩ := e c
  refine (Ref.position_score m' c R v).trans ?_
  rw [e0, e1, e2, e3, e4, e5]

/-- The two log-sum-exps are equal. -/
theorem lse_agree (c : Dev Cert.HeadIdeal.nD) (y : Cert.HeadIdeal.S256x128.Idx) :
    Cert.ReferenceIdeal.Read.val_main_v115 (F := Ideal)
      (Cert.ReferenceIdeal.Value.exitV m' c (Proc.devRef .tc Cert.ReferenceIdeal.main_arg2))
      (Cert.ReferenceIdeal.Value.exitV m' c (Proc.devRef .tc Cert.ReferenceIdeal.main_arg4))
      (Cert.ReferenceIdeal.Value.exitV m' c (Proc.devRef .tc Cert.ReferenceIdeal.main_arg5))
      (Cert.ReferenceIdeal.Value.exitV m' c (Proc.devRef .tc Cert.ReferenceIdeal.main_v15))
      (Cert.ReferenceIdeal.Value.exitV m' c (Proc.devRef .tc Cert.ReferenceIdeal.main_v14)) y
      = Cert.HeadIdeal.Value.G8 m c y := by
  rw [kernel_lse m c (temps_ne m h c) y, Finset.sum_range]
  refine (Ref.lse_result _ _ _ _ _ y).trans ((Ref.lse_row _ _ _ _ _ _ _).trans (congrArg₂ Online.lse (propext ?_) ?_))
  · constructor
    · rintro ⟨v, hv⟩; exact ⟨v.val, v.isLt, (scores_agree m m' h e c (y 0) v).symm.trans hv⟩
    · rintro ⟨v, hv, hs⟩; exact ⟨⟨v, hv⟩, (scores_agree m m' h e c (y 0) ⟨v, hv⟩).trans hs⟩
  · exact Finset.sum_congr rfl fun v _ => congrArg Online.w (scores_agree m m' h e c (y 0) v)

/-- The two picked-out scores are equal. -/
theorem hit_agree (c : Dev Cert.HeadIdeal.nD) (y : Cert.HeadIdeal.S256x128.Idx) :
    Cert.ReferenceIdeal.Read.val_main_v118 (F := Ideal)
      (Cert.ReferenceIdeal.Value.exitV m' c (Proc.devRef .tc Cert.ReferenceIdeal.main_arg2))
      (Cert.ReferenceIdeal.Value.exitV m' c (Proc.devRef .tc Cert.ReferenceIdeal.main_arg4))
      (Cert.ReferenceIdeal.Value.exitV m' c (Proc.devRef .tc Cert.ReferenceIdeal.main_arg5))
      (Cert.ReferenceIdeal.Value.exitV m' c (Proc.devRef .tc Cert.ReferenceIdeal.main_arg6))
      (Cert.ReferenceIdeal.Value.exitV m' c (Proc.devRef .tc Cert.ReferenceIdeal.main_v15))
      (Cert.ReferenceIdeal.Value.exitV m' c (Proc.devRef .tc Cert.ReferenceIdeal.main_v14)) y
      = Cert.HeadIdeal.Value.G9 m c y := by
  have hy : (y 0).val < 256 := (y 0).isLt
  rw [kernel_hit m c (temps_ne m h c) y, Finset.sum_range]
  refine (Ref.hit_result _ _ _ _ _ _ y).trans ?_
  by_cases h7 : (y 0).val < 224
  · refine (Ref.pad_in _ _ _ _ _ _ _ ⟨(y 0).val / 32, by omega⟩).trans ((Ref.hit_row _ _ _ _ _ _ _ _).trans (Finset.sum_congr rfl fun v _ => ?_))
    refine ite_congr (propext ?_) (fun _ => scores_agree m m' h e c (y 0) v) (fun _ => rfl)
    have hid : rowId m c y = m ((c.tc : Thread Cert.HeadIdeal.nD Cert.HeadIdeal.τ).loc Cert.HeadIdeal.main_arg6)
        (ix2 (n0 := 32) (n1 := 7) ⟨(y 0).val % 32, Nat.mod_lt _ (by norm_num)⟩ ⟨(y 0).val / 32, by omega⟩) := by
      unfold rowId IN
      rw [dif_pos h7]
      exact blk6 m c t0 _ _
    rw [hid, Cert.ReferenceIdeal.Value.exit_main_arg6, (e c).2.2.2.2.2.2]
  · have hs : (⟨(y 0).val / 32, by omega⟩ : Fin 8) = 7 := Fin.ext (by show (y 0).val / 32 = 7; omega)
    rw [hs]
    refine (Ref.pad_out _ _ _ _ _ _ _).trans (Finset.sum_eq_zero fun v _ => if_neg fun hv => ?_).symm
    have hid : rowId m c y = 4294967295#32 := by
      unfold rowId IN
      rw [dif_neg h7]
    have ht := congrArg BitVec.toNat (hid.symm.trans hv)
    rw [BitVec.toNat_ofNat, BitVec.toNat_ofNat] at ht
    have := v.isLt
    omega

omit h e in
/-- The algebraic claim. -/
theorem algebraic : algebraic_HeadIdeal_ReferenceIdeal_pre_temperature_not_zero (hHeadIdeal := Cert.HeadIdeal.Gen.facts)
    (hReferenceIdeal := Cert.ReferenceIdeal.Gen.facts) (hPre_temperature_not_zero := pre_facts) := by
  intro m g m' g' h e
  refine ⟨fun c => Cert.HeadIdeal.Value.G7 m c, fun c => Cert.HeadIdeal.Value.G8 m c, fun c => Cert.HeadIdeal.Value.G9 m c,
    Cert.HeadIdeal.Value.run m g, ?_⟩
  exact (θ_run _ _ _).mono (fun r hr c => ⟨(hr c).1.trans
      ((Cert.ReferenceIdeal.Read.val_main_v112_eq (F := Ideal) (Cert.ReferenceIdeal.Value.exitV m' c)).trans
        (funext fun i => results_agree m m' h e c i)),
    (hr c).2.1.trans ((Cert.ReferenceIdeal.Read.val_main_v115_eq (F := Ideal) (Cert.ReferenceIdeal.Value.exitV m' c)).trans
        (funext fun i => lse_agree m m' h e c i)),
    (hr c).2.2.1.trans ((Cert.ReferenceIdeal.Read.val_main_v118_eq (F := Ideal) (Cert.ReferenceIdeal.Value.exitV m' c)).trans
        (funext fun i => hit_agree m m' h e c i)), (hr c).2.2.2⟩) (Cert.ReferenceIdeal.Value.run m' g')

end Cert.HeadValue

end
-- ==== Proof.lean ====
module

public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Head

/-- The frames are the generated ones; no operation was rewritten, so `preserves` has nothing to show. -/
theorem claim : Cert.Claim :=
  ⟨Cert.Head.Gen.facts, Cert.HeadIdeal.Gen.facts, Cert.ReferenceIdeal.Gen.facts, Cert.HeadValue.pre_facts,
    fun m ρ _ => Cert.Head.Gen.frame m ρ,
    fun m ρ _ => Cert.HeadIdeal.Gen.frame m ρ,
    fun m ρ _ => Cert.HeadIdeal.Gen.frame m ρ,
    fun m ρ _ => Cert.ReferenceIdeal.Gen.frame m ρ,
    fun m ρ _ => Cert.ReferenceIdeal.Gen.frame m ρ,
    trivial,
    Cert.HeadValue.algebraic⟩

end Cert.Proof

end
